-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_KernelIdeal [hPre_within_KernelIdeal : Cert.Pre_within_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_ReferenceIdeal [hPre_within_ReferenceIdeal : Cert.Pre_within_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_KernelIdeal [hKernelIdeal : Cert.KernelIdeal.Facts] [hPre_within_KernelIdeal : Cert.Pre_within_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_within_ReferenceIdeal [hReferenceIdeal : Cert.ReferenceIdeal.Facts] [hPre_within_ReferenceIdeal : Cert.Pre_within_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_ReferenceIdeal_pre_within_KernelIdeal [hKernelIdeal : Cert.KernelIdeal.Facts] [hReferenceIdeal : Cert.ReferenceIdeal.Facts] [hPre_within_KernelIdeal : Cert.Pre_within_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_KernelIdeal m →
    (∀ c : Dev Cert.KernelIdeal.nD,
      m ((c.tc : Thread Cert.KernelIdeal.nD Cert.KernelIdeal.τ).loc Cert.KernelIdeal.main_arg0) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 32]⟩ ⟨2, ![1024, 1024]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![32, 1024]⟩ ⟨2, ![1024, 1024]⟩ 0 32 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)) →
    ∃ (v0 : Buf (Elt Ideal) (((0 : Dev Cert.UnclippedIdeal.nD).tc : Thread Cert.UnclippedIdeal.nD Cert.UnclippedIdeal.τ).loc Cert.UnclippedIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 32]⟩ ⟨2, ![1024, 1024]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v7) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_within_KernelIdeal : Cert.Pre_within_KernelIdeal.Facts) (hPre_within_ReferenceIdeal : Cert.Pre_within_ReferenceIdeal.Facts),
    quiescent_Kernel (hKernel := hKernel)
    ∧ quiescent_KernelIdeal (hKernelIdeal := hKernelIdeal)
    ∧ quiescent_KernelIdeal_pre_within_KernelIdeal (hKernelIdeal := hKernelIdeal) (hPre_within_KernelIdeal := hPre_within_KernelIdeal)
    ∧ quiescent_ReferenceIdeal (hReferenceIdeal := hReferenceIdeal)
    ∧ quiescent_ReferenceIdeal_pre_within_ReferenceIdeal (hReferenceIdeal := hReferenceIdeal) (hPre_within_ReferenceIdeal := hPre_within_ReferenceIdeal)
    ∧ quiescent_UnclippedIdeal (hUnclippedIdeal := hUnclippedIdeal)
    ∧ preserves_Kernel_KernelIdeal
    ∧ algebraic_KernelIdeal_ReferenceIdeal_pre_within_KernelIdeal (hKernelIdeal := hKernelIdeal) (hReferenceIdeal := hReferenceIdeal) (hPre_within_KernelIdeal := hPre_within_KernelIdeal)
    ∧ algebraic_KernelIdeal_UnclippedIdeal (hKernelIdeal := hKernelIdeal) (hUnclippedIdeal := hUnclippedIdeal)
-- ==== Pre_within_KernelIdeal.lean ====
abbrev S32x1024 : Shape := ⟨2, ![32, 1024]⟩
abbrev S1024x1024 : Shape := ⟨2, ![1024, 1024]⟩
abbrev S_ : Shape := ⟨0, ![]⟩

class Facts : Prop where
  bitsLt_bf16_f32 : FTy.bits .bf16 < FTy.bits .f32
  bcast_S_S32x1024 : S_.BroadcastsInDim S32x1024 (![] : Fin 0 → Fin S32x1024.rank)
  dot_S32x1024_S1024x1024_S32x1024_1_0_0_1_n_n_wf : DotDims.WF S32x1024 S1024x1024 S32x1024 [1] [0] [0] [1] [] []

variable [Facts]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def fn {F : FTy → Type} [FloatOps F] (main_arg0 : FVec F S32x1024 .bf16) (main_arg1 : FVec F S1024x1024 .bf16) : IVec S32x1024 1 :=
  let main_v0 : FVec F S32x1024 .f32 := (extf .f32 · bitsLt_bf16_f32) main_arg0
  let main_v1 : FVec F S1024x1024 .f32 := (extf .f32 · bitsLt_bf16_f32) main_arg1
  let main_v2 : FVec F S32x1024 .f32 := (fun l r => Host.dotGeneral dot_S32x1024_S1024x1024_S32x1024_1_0_0_1_n_n none l r) main_v0 main_v1
  let main_cst : FVec F S_ .f32 := constant S_ .f32 0xC2700000#32
  let main_v3 : FVec F S32x1024 .f32 := broadcastInDim S32x1024 ![] bcast_S_S32x1024 main_cst
  let main_v4 : IVec S32x1024 1 := cmpf .oge main_v2 main_v3
  let main_cst_0 : FVec F S_ .f32 := constant S_ .f32 0x42700000#32
  let main_v5 : FVec F S32x1024 .f32 := broadcastInDim S32x1024 ![] bcast_S_S32x1024 main_cst_0
  let main_v6 : IVec S32x1024 1 := cmpf .ole main_v2 main_v5
  let main_v7 : IVec S32x1024 1 := andi main_v4 main_v6
  main_v7
-- ==== Pre_within_ReferenceIdeal.lean ====
abbrev S1024x1024 : Shape := ⟨2, ![1024, 1024]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .bf16) (main_arg1 : FVec F S1024x1024 .bf16) : IVec S1024x1024 1 :=
  let main_v0 : FVec F S1024x1024 .f32 := (extf .f32 · bitsLt_bf16_f32) main_arg0
  let main_v1 : FVec F S1024x1024 .f32 := (extf .f32 · bitsLt_bf16_f32) main_arg1
  let main_v2 : FVec F S1024x1024 .f32 := (fun l r => Host.dotGeneral dot_S1024x1024_S1024x1024_S1024x1024_1_0_0_1_n_n none l r) main_v0 main_v1
  let main_cst : FVec F S_ .f32 := constant S_ .f32 0xC2700000#32
  let main_v3 : FVec F S1024x1024 .f32 := broadcastInDim S1024x1024 ![] bcast_S_S1024x1024 main_cst
  let main_v4 : IVec S1024x1024 1 := cmpf .oge main_v2 main_v3
  let main_cst_0 : FVec F S_ .f32 := constant S_ .f32 0x42700000#32
  let main_v5 : FVec F S1024x1024 .f32 := broadcastInDim S1024x1024 ![] bcast_S_S1024x1024 main_cst_0
  let main_v6 : IVec S1024x1024 1 := cmpf .ole main_v2 main_v5
  let main_v7 : IVec S1024x1024 1 := andi main_v4 main_v6
  main_v7
-- ==== Kernel.lean ====
abbrev S32x1024 : Shape := ⟨2, ![32, 1024]⟩
abbrev S1024x1024 : Shape := ⟨2, ![1024, 1024]⟩
abbrev S1024x32 : Shape := ⟨2, ![1024, 32]⟩
abbrev S32x32x32 : Shape := ⟨3, ![32, 32, 32]⟩
abbrev S32 : Shape := ⟨1, ![32]⟩
abbrev S32x32 : Shape := ⟨2, ![32, 32]⟩
abbrev S1x32x32 : Shape := ⟨3, ![1, 32, 32]⟩
abbrev S_ : Shape := ⟨0, ![]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S32x1024, .bf16⟩
  | .hbm, ⟨1, _⟩ => ⟨S1024x1024, .bf16⟩
  | .hbm, ⟨2, _⟩ => ⟨S1024x32, .f32⟩
  | .local _ .vmem, ⟨0, _⟩ => ⟨S32x1024, .bf16⟩
  | .local _ .vmem, ⟨1, _⟩ => ⟨S1024x1024, .bf16⟩
  | .local _ .vmem, ⟨2, _⟩ => ⟨S1024x32, .f32⟩
  | .local _ .vmem, ⟨3, _⟩ => ⟨S32x32x32, .f32⟩
  | _, _ => ⟨S32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v138 : Index := Scalar.indexCast v2
  let c0_68 : Index := 0#32
  let c0_69 : Index := 0#32
  ![v138.toNat, 0, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_70 : BitVec 32 := 32#32
  let v141 : BitVec 32 := Scalar.muli v2 c32_i32_70
  let v142 : Index := Scalar.indexCast v141
  let c0_71 : Index := 0#32
  ![v142.toNat, 0]
def k0_dev1 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_72 : BitVec 32 := 1#32
  let v145 : BitVec 32 := Scalar.addi v2 c1_i32_72
  let c32_i32_73 : BitVec 32 := 32#32
  let c0_i32 : BitVec 32 := 0#32
  let v146 : BitVec 1 := Scalar.cmpi .eq c32_i32_73 c0_i32
  let c1_i32_74 : BitVec 32 := 1#32
  let v147 : BitVec 32 := Scalar.select v146 c1_i32_74 c32_i32_73
  let v148 : BitVec 32 := Scalar.remsi v145 v147
  let c0_i32_76 : BitVec 32 := 0#32
  let v150 : BitVec 1 := Scalar.cmpi .slt v148 c0_i32_76
  let c0_i32_77 : BitVec 32 := 0#32
  let v151 : BitVec 1 := Scalar.cmpi .slt v147 c0_i32_77
  let v152 : BitVec 1 := Scalar.xori v150 v151
  let c0_i32_75 : BitVec 32 := 0#32
  let v149 : BitVec 1 := Scalar.cmpi .ne v148 c0_i32_75
  let v153 : BitVec 1 := Scalar.andi v152 v149
  let v154 : BitVec 32 := Scalar.addi v148 v147
  let v155 : BitVec 32 := Scalar.select v153 v154 v148
  let c1_i32_79 : BitVec 32 := 1#32
  let v156 : BitVec 32 := Scalar.muli v155 c1_i32_79
  let v157 : BitVec 32 := Scalar.addi c0_i32_80 v156
  v157.toNat
def k0_dev2 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v158 : BitVec 32 := Scalar.addi v2 c2_i32
  let c32_i32_81 : BitVec 32 := 32#32
  let c0_i32_82 : BitVec 32 := 0#32
  let v159 : BitVec 1 := Scalar.cmpi .eq c32_i32_81 c0_i32_82
  let c1_i32_83 : BitVec 32 := 1#32
  let v160 : BitVec 32 := Scalar.select v159 c1_i32_83 c32_i32_81
  let v161 : BitVec 32 := Scalar.remsi v158 v160
  let c0_i32_85 : BitVec 32 := 0#32
  let v163 : BitVec 1 := Scalar.cmpi .slt v161 c0_i32_85
  let c0_i32_86 : BitVec 32 := 0#32
  let v164 : BitVec 1 := Scalar.cmpi .slt v160 c0_i32_86
  let v165 : BitVec 1 := Scalar.xori v163 v164
  let c0_i32_84 : BitVec 32 := 0#32
  let v162 : BitVec 1 := Scalar.cmpi .ne v161 c0_i32_84
  let v166 : BitVec 1 := Scalar.andi v165 v162
  let v167 : BitVec 32 := Scalar.addi v161 v160
  let v168 : BitVec 32 := Scalar.select v166 v167 v161
  let c1_i32_88 : BitVec 32 := 1#32
  let v169 : BitVec 32 := Scalar.muli v168 c1_i32_88
  let v170 : BitVec 32 := Scalar.addi c0_i32_89 v169
  v170.toNat
def k0_dev3 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v171 : BitVec 32 := Scalar.addi v2 c3_i32
  let c32_i32_90 : BitVec 32 := 32#32
  let c0_i32_91 : BitVec 32 := 0#32
  let v172 : BitVec 1 := Scalar.cmpi .eq c32_i32_90 c0_i32_91
  let c1_i32_92 : BitVec 32 := 1#32
  let v173 : BitVec 32 := Scalar.select v172 c1_i32_92 c32_i32_90
  let v174 : BitVec 32 := Scalar.remsi v171 v173
  let c0_i32_94 : BitVec 32 := 0#32
  let v176 : BitVec 1 := Scalar.cmpi .slt v174 c0_i32_94
  let c0_i32_95 : BitVec 32 := 0#32
  let v177 : BitVec 1 := Scalar.cmpi .slt v173 c0_i32_95
  let v178 : BitVec 1 := Scalar.xori v176 v177
  let c0_i32_93 : BitVec 32 := 0#32
  let v175 : BitVec 1 := Scalar.cmpi .ne v174 c0_i32_93
  let v179 : BitVec 1 := Scalar.andi v178 v175
  let v180 : BitVec 32 := Scalar.addi v174 v173
  let v181 : BitVec 32 := Scalar.select v179 v180 v174
  let c1_i32_97 : BitVec 32 := 1#32
  let v182 : BitVec 32 := Scalar.muli v181 c1_i32_97
  let v183 : BitVec 32 := Scalar.addi c0_i32_98 v182
  v183.toNat
def k0_dev4 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v184 : BitVec 32 := Scalar.addi v2 c4_i32
  let c32_i32_99 : BitVec 32 := 32#32
  let c0_i32_100 : BitVec 32 := 0#32
  let v185 : BitVec 1 := Scalar.cmpi .eq c32_i32_99 c0_i32_100
  let c1_i32_101 : BitVec 32 := 1#32
  let v186 : BitVec 32 := Scalar.select v185 c1_i32_101 c32_i32_99
  let v187 : BitVec 32 := Scalar.remsi v184 v186
  let c0_i32_103 : BitVec 32 := 0#32
  let v189 : BitVec 1 := Scalar.cmpi .slt v187 c0_i32_103
  let c0_i32_104 : BitVec 32 := 0#32
  let v190 : BitVec 1 := Scalar.cmpi .slt v186 c0_i32_104
  let v191 : BitVec 1 := Scalar.xori v189 v190
  let c0_i32_102 : BitVec 32 := 0#32
  let v188 : BitVec 1 := Scalar.cmpi .ne v187 c0_i32_102
  let v192 : BitVec 1 := Scalar.andi v191 v188
  let v193 : BitVec 32 := Scalar.addi v187 v186
  let v194 : BitVec 32 := Scalar.select v192 v193 v187
  let c1_i32_106 : BitVec 32 := 1#32
  let v195 : BitVec 32 := Scalar.muli v194 c1_i32_106
  let v196 : BitVec 32 := Scalar.addi c0_i32_107 v195
  v196.toNat
def k0_dev5 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v197 : BitVec 32 := Scalar.addi v2 c5_i32
  let c32_i32_108 : BitVec 32 := 32#32
  let c0_i32_109 : BitVec 32 := 0#32
  let v198 : BitVec 1 := Scalar.cmpi .eq c32_i32_108 c0_i32_109
  let c1_i32_110 : BitVec 32 := 1#32
  let v199 : BitVec 32 := Scalar.select v198 c1_i32_110 c32_i32_108
  let v200 : BitVec 32 := Scalar.remsi v197 v199
  let c0_i32_112 : BitVec 32 := 0#32
  let v202 : BitVec 1 := Scalar.cmpi .slt v200 c0_i32_112
  let c0_i32_113 : BitVec 32 := 0#32
  let v203 : BitVec 1 := Scalar.cmpi .slt v199 c0_i32_113
  let v204 : BitVec 1 := Scalar.xori v202 v203
  let c0_i32_111 : BitVec 32 := 0#32
  let v201 : BitVec 1 := Scalar.cmpi .ne v200 c0_i32_111
  let v205 : BitVec 1 := Scalar.andi v204 v201
  let v206 : BitVec 32 := Scalar.addi v200 v199
  let v207 : BitVec 32 := Scalar.select v205 v206 v200
  let c1_i32_115 : BitVec 32 := 1#32
  let v208 : BitVec 32 := Scalar.muli v207 c1_i32_115
  let v209 : BitVec 32 := Scalar.addi c0_i32_116 v208
  v209.toNat
def k0_dev6 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v210 : BitVec 32 := Scalar.addi v2 c6_i32
  let c32_i32_117 : BitVec 32 := 32#32
  let c0_i32_118 : BitVec 32 := 0#32
  let v211 : BitVec 1 := Scalar.cmpi .eq c32_i32_117 c0_i32_118
  let c1_i32_119 : BitVec 32 := 1#32
  let v212 : BitVec 32 := Scalar.select v211 c1_i32_119 c32_i32_117
  let v213 : BitVec 32 := Scalar.remsi v210 v212
  let c0_i32_121 : BitVec 32 := 0#32
  let v215 : BitVec 1 := Scalar.cmpi .slt v213 c0_i32_121
  let c0_i32_122 : BitVec 32 := 0#32
  let v216 : BitVec 1 := Scalar.cmpi .slt v212 c0_i32_122
  let v217 : BitVec 1 := Scalar.xori v215 v216
  let c0_i32_120 : BitVec 32 := 0#32
  let v214 : BitVec 1 := Scalar.cmpi .ne v213 c0_i32_120
  let v218 : BitVec 1 := Scalar.andi v217 v214
  let v219 : BitVec 32 := Scalar.addi v213 v212
  let v220 : BitVec 32 := Scalar.select v218 v219 v213
  let c1_i32_124 : BitVec 32 := 1#32
  let v221 : BitVec 32 := Scalar.muli v220 c1_i32_124
  let v222 : BitVec 32 := Scalar.addi c0_i32_125 v221
  v222.toNat
def k0_dev7 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v223 : BitVec 32 := Scalar.addi v2 c7_i32
  let c32_i32_126 : BitVec 32 := 32#32
  let c0_i32_127 : BitVec 32 := 0#32
  let v224 : BitVec 1 := Scalar.cmpi .eq c32_i32_126 c0_i32_127
  let c1_i32_128 : BitVec 32 := 1#32
  let v225 : BitVec 32 := Scalar.select v224 c1_i32_128 c32_i32_126
  let v226 : BitVec 32 := Scalar.remsi v223 v225
  let c0_i32_130 : BitVec 32 := 0#32
  let v228 : BitVec 1 := Scalar.cmpi .slt v226 c0_i32_130
  let c0_i32_131 : BitVec 32 := 0#32
  let v229 : BitVec 1 := Scalar.cmpi .slt v225 c0_i32_131
  let v230 : BitVec 1 := Scalar.xori v228 v229
  let c0_i32_129 : BitVec 32 := 0#32
  let v227 : BitVec 1 := Scalar.cmpi .ne v226 c0_i32_129
  let v231 : BitVec 1 := Scalar.andi v230 v227
  let v232 : BitVec 32 := Scalar.addi v226 v225
  let v233 : BitVec 32 := Scalar.select v231 v232 v226
  let c1_i32_133 : BitVec 32 := 1#32
  let v234 : BitVec 32 := Scalar.muli v233 c1_i32_133
  let v235 : BitVec 32 := Scalar.addi c0_i32_134 v234
  v235.toNat
def k0_dev8 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v236 : BitVec 32 := Scalar.addi v2 c8_i32
  let c32_i32_135 : BitVec 32 := 32#32
  let c0_i32_136 : BitVec 32 := 0#32
  let v237 : BitVec 1 := Scalar.cmpi .eq c32_i32_135 c0_i32_136
  let c1_i32_137 : BitVec 32 := 1#32
  let v238 : BitVec 32 := Scalar.select v237 c1_i32_137 c32_i32_135
  let v239 : BitVec 32 := Scalar.remsi v236 v238
  let c0_i32_139 : BitVec 32 := 0#32
  let v241 : BitVec 1 := Scalar.cmpi .slt v239 c0_i32_139
  let c0_i32_140 : BitVec 32 := 0#32
  let v242 : BitVec 1 := Scalar.cmpi .slt v238 c0_i32_140
  let v243 : BitVec 1 := Scalar.xori v241 v242
  let c0_i32_138 : BitVec 32 := 0#32
  let v240 : BitVec 1 := Scalar.cmpi .ne v239 c0_i32_138
  let v244 : BitVec 1 := Scalar.andi v243 v240
  let v245 : BitVec 32 := Scalar.addi v239 v238
  let v246 : BitVec 32 := Scalar.select v244 v245 v239
  let c1_i32_142 : BitVec 32 := 1#32
  let v247 : BitVec 32 := Scalar.muli v246 c1_i32_142
  let v248 : BitVec 32 := Scalar.addi c0_i32_143 v247
  v248.toNat
def k0_dev9 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v249 : BitVec 32 := Scalar.addi v2 c9_i32
  let c32_i32_144 : BitVec 32 := 32#32
  let c0_i32_145 : BitVec 32 := 0#32
  let v250 : BitVec 1 := Scalar.cmpi .eq c32_i32_144 c0_i32_145
  let c1_i32_146 : BitVec 32 := 1#32
  let v251 : BitVec 32 := Scalar.select v250 c1_i32_146 c32_i32_144
  let v252 : BitVec 32 := Scalar.remsi v249 v251
  let c0_i32_148 : BitVec 32 := 0#32
  let v254 : BitVec 1 := Scalar.cmpi .slt v252 c0_i32_148
  let c0_i32_149 : BitVec 32 := 0#32
  let v255 : BitVec 1 := Scalar.cmpi .slt v251 c0_i32_149
  let v256 : BitVec 1 := Scalar.xori v254 v255
  let c0_i32_147 : BitVec 32 := 0#32
  let v253 : BitVec 1 := Scalar.cmpi .ne v252 c0_i32_147
  let v257 : BitVec 1 := Scalar.andi v256 v253
  let v258 : BitVec 32 := Scalar.addi v252 v251
  let v259 : BitVec 32 := Scalar.select v257 v258 v252
  let c1_i32_151 : BitVec 32 := 1#32
  let v260 : BitVec 32 := Scalar.muli v259 c1_i32_151
  let v261 : BitVec 32 := Scalar.addi c0_i32_152 v260
  v261.toNat
def k0_dev10 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v262 : BitVec 32 := Scalar.addi v2 c10_i32
  let c32_i32_153 : BitVec 32 := 32#32
  let c0_i32_154 : BitVec 32 := 0#32
  let v263 : BitVec 1 := Scalar.cmpi .eq c32_i32_153 c0_i32_154
  let c1_i32_155 : BitVec 32 := 1#32
  let v264 : BitVec 32 := Scalar.select v263 c1_i32_155 c32_i32_153
  let v265 : BitVec 32 := Scalar.remsi v262 v264
  let c0_i32_157 : BitVec 32 := 0#32
  let v267 : BitVec 1 := Scalar.cmpi .slt v265 c0_i32_157
  let c0_i32_158 : BitVec 32 := 0#32
  let v268 : BitVec 1 := Scalar.cmpi .slt v264 c0_i32_158
  let v269 : BitVec 1 := Scalar.xori v267 v268
  let c0_i32_156 : BitVec 32 := 0#32
  let v266 : BitVec 1 := Scalar.cmpi .ne v265 c0_i32_156
  let v270 : BitVec 1 := Scalar.andi v269 v266
  let v271 : BitVec 32 := Scalar.addi v265 v264
  let v272 : BitVec 32 := Scalar.select v270 v271 v265
  let c1_i32_160 : BitVec 32 := 1#32
  let v273 : BitVec 32 := Scalar.muli v272 c1_i32_160
  let v274 : BitVec 32 := Scalar.addi c0_i32_161 v273
  v274.toNat
def k0_dev11 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v275 : BitVec 32 := Scalar.addi v2 c11_i32
  let c32_i32_162 : BitVec 32 := 32#32
  let c0_i32_163 : BitVec 32 := 0#32
  let v276 : BitVec 1 := Scalar.cmpi .eq c32_i32_162 c0_i32_163
  let c1_i32_164 : BitVec 32 := 1#32
  let v277 : BitVec 32 := Scalar.select v276 c1_i32_164 c32_i32_162
  let v278 : BitVec 32 := Scalar.remsi v275 v277
  let c0_i32_166 : BitVec 32 := 0#32
  let v280 : BitVec 1 := Scalar.cmpi .slt v278 c0_i32_166
  let c0_i32_167 : BitVec 32 := 0#32
  let v281 : BitVec 1 := Scalar.cmpi .slt v277 c0_i32_167
  let v282 : BitVec 1 := Scalar.xori v280 v281
  let c0_i32_165 : BitVec 32 := 0#32
  let v279 : BitVec 1 := Scalar.cmpi .ne v278 c0_i32_165
  let v283 : BitVec 1 := Scalar.andi v282 v279
  let v284 : BitVec 32 := Scalar.addi v278 v277
  let v285 : BitVec 32 := Scalar.select v283 v284 v278
  let c1_i32_169 : BitVec 32 := 1#32
  let v286 : BitVec 32 := Scalar.muli v285 c1_i32_169
  let v287 : BitVec 32 := Scalar.addi c0_i32_170 v286
  v287.toNat
def k0_dev12 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v288 : BitVec 32 := Scalar.addi v2 c12_i32
  let c32_i32_171 : BitVec 32 := 32#32
  let c0_i32_172 : BitVec 32 := 0#32
  let v289 : BitVec 1 := Scalar.cmpi .eq c32_i32_171 c0_i32_172
  let c1_i32_173 : BitVec 32 := 1#32
  let v290 : BitVec 32 := Scalar.select v289 c1_i32_173 c32_i32_171
  let v291 : BitVec 32 := Scalar.remsi v288 v290
  let c0_i32_175 : BitVec 32 := 0#32
  let v293 : BitVec 1 := Scalar.cmpi .slt v291 c0_i32_175
  let c0_i32_176 : BitVec 32 := 0#32
  let v294 : BitVec 1 := Scalar.cmpi .slt v290 c0_i32_176
  let v295 : BitVec 1 := Scalar.xori v293 v294
  let c0_i32_174 : BitVec 32 := 0#32
  let v292 : BitVec 1 := Scalar.cmpi .ne v291 c0_i32_174
  let v296 : BitVec 1 := Scalar.andi v295 v292
  let v297 : BitVec 32 := Scalar.addi v291 v290
  let v298 : BitVec 32 := Scalar.select v296 v297 v291
  let c1_i32_178 : BitVec 32 := 1#32
  let v299 : BitVec 32 := Scalar.muli v298 c1_i32_178
  let v300 : BitVec 32 := Scalar.addi c0_i32_179 v299
  v300.toNat
def k0_dev13 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v301 : BitVec 32 := Scalar.addi v2 c13_i32
  let c32_i32_180 : BitVec 32 := 32#32
  let c0_i32_181 : BitVec 32 := 0#32
  let v302 : BitVec 1 := Scalar.cmpi .eq c32_i32_180 c0_i32_181
  let c1_i32_182 : BitVec 32 := 1#32
  let v303 : BitVec 32 := Scalar.select v302 c1_i32_182 c32_i32_180
  let v304 : BitVec 32 := Scalar.remsi v301 v303
  let c0_i32_184 : BitVec 32 := 0#32
  let v306 : BitVec 1 := Scalar.cmpi .slt v304 c0_i32_184
  let c0_i32_185 : BitVec 32 := 0#32
  let v307 : BitVec 1 := Scalar.cmpi .slt v303 c0_i32_185
  let v308 : BitVec 1 := Scalar.xori v306 v307
  let c0_i32_183 : BitVec 32 := 0#32
  let v305 : BitVec 1 := Scalar.cmpi .ne v304 c0_i32_183
  let v309 : BitVec 1 := Scalar.andi v308 v305
  let v310 : BitVec 32 := Scalar.addi v304 v303
  let v311 : BitVec 32 := Scalar.select v309 v310 v304
  let c1_i32_187 : BitVec 32 := 1#32
  let v312 : BitVec 32 := Scalar.muli v311 c1_i32_187
  let v313 : BitVec 32 := Scalar.addi c0_i32_188 v312
  v313.toNat
def k0_dev14 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v314 : BitVec 32 := Scalar.addi v2 c14_i32
  let c32_i32_189 : BitVec 32 := 32#32
  let c0_i32_190 : BitVec 32 := 0#32
  let v315 : BitVec 1 := Scalar.cmpi .eq c32_i32_189 c0_i32_190
  let c1_i32_191 : BitVec 32 := 1#32
  let v316 : BitVec 32 := Scalar.select v315 c1_i32_191 c32_i32_189
  let v317 : BitVec 32 := Scalar.remsi v314 v316
  let c0_i32_193 : BitVec 32 := 0#32
  let v319 : BitVec 1 := Scalar.cmpi .slt v317 c0_i32_193
  let c0_i32_194 : BitVec 32 := 0#32
  let v320 : BitVec 1 := Scalar.cmpi .slt v316 c0_i32_194
  let v321 : BitVec 1 := Scalar.xori v319 v320
  let c0_i32_192 : BitVec 32 := 0#32
  let v318 : BitVec 1 := Scalar.cmpi .ne v317 c0_i32_192
  let v322 : BitVec 1 := Scalar.andi v321 v318
  let v323 : BitVec 32 := Scalar.addi v317 v316
  let v324 : BitVec 32 := Scalar.select v322 v323 v317
  let c1_i32_196 : BitVec 32 := 1#32
  let v325 : BitVec 32 := Scalar.muli v324 c1_i32_196
  let v326 : BitVec 32 := Scalar.addi c0_i32_197 v325
  v326.toNat
def k0_dev15 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v327 : BitVec 32 := Scalar.addi v2 c15_i32
  let c32_i32_198 : BitVec 32 := 32#32
  let c0_i32_199 : BitVec 32 := 0#32
  let v328 : BitVec 1 := Scalar.cmpi .eq c32_i32_198 c0_i32_199
  let c1_i32_200 : BitVec 32 := 1#32
  let v329 : BitVec 32 := Scalar.select v328 c1_i32_200 c32_i32_198
  let v330 : BitVec 32 := Scalar.remsi v327 v329
  let c0_i32_202 : BitVec 32 := 0#32
  let v332 : BitVec 1 := Scalar.cmpi .slt v330 c0_i32_202
  let c0_i32_203 : BitVec 32 := 0#32
  let v333 : BitVec 1 := Scalar.cmpi .slt v329 c0_i32_203
  let v334 : BitVec 1 := Scalar.xori v332 v333
  let c0_i32_201 : BitVec 32 := 0#32
  let v331 : BitVec 1 := Scalar.cmpi .ne v330 c0_i32_201
  let v335 : BitVec 1 := Scalar.andi v334 v331
  let v336 : BitVec 32 := Scalar.addi v330 v329
  let v337 : BitVec 32 := Scalar.select v335 v336 v330
  let c1_i32_205 : BitVec 32 := 1#32
  let v338 : BitVec 32 := Scalar.muli v337 c1_i32_205
  let v339 : BitVec 32 := Scalar.addi c0_i32_206 v338
  v339.toNat
def k0_dev16 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v340 : BitVec 32 := Scalar.addi v2 c16_i32
  let c32_i32_207 : BitVec 32 := 32#32
  let c0_i32_208 : BitVec 32 := 0#32
  let v341 : BitVec 1 := Scalar.cmpi .eq c32_i32_207 c0_i32_208
  let c1_i32_209 : BitVec 32 := 1#32
  let v342 : BitVec 32 := Scalar.select v341 c1_i32_209 c32_i32_207
  let v343 : BitVec 32 := Scalar.remsi v340 v342
  let c0_i32_211 : BitVec 32 := 0#32
  let v345 : BitVec 1 := Scalar.cmpi .slt v343 c0_i32_211
  let c0_i32_212 : BitVec 32 := 0#32
  let v346 : BitVec 1 := Scalar.cmpi .slt v342 c0_i32_212
  let v347 : BitVec 1 := Scalar.xori v345 v346
  let c0_i32_210 : BitVec 32 := 0#32
  let v344 : BitVec 1 := Scalar.cmpi .ne v343 c0_i32_210
  let v348 : BitVec 1 := Scalar.andi v347 v344
  let v349 : BitVec 32 := Scalar.addi v343 v342
  let v350 : BitVec 32 := Scalar.select v348 v349 v343
  let c1_i32_214 : BitVec 32 := 1#32
  let v351 : BitVec 32 := Scalar.muli v350 c1_i32_214
  let v352 : BitVec 32 := Scalar.addi c0_i32_215 v351
  v352.toNat
def k0_dev17 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v353 : BitVec 32 := Scalar.addi v2 c17_i32
  let c32_i32_216 : BitVec 32 := 32#32
  let c0_i32_217 : BitVec 32 := 0#32
  let v354 : BitVec 1 := Scalar.cmpi .eq c32_i32_216 c0_i32_217
  let c1_i32_218 : BitVec 32 := 1#32
  let v355 : BitVec 32 := Scalar.select v354 c1_i32_218 c32_i32_216
  let v356 : BitVec 32 := Scalar.remsi v353 v355
  let c0_i32_220 : BitVec 32 := 0#32
  let v358 : BitVec 1 := Scalar.cmpi .slt v356 c0_i32_220
  let c0_i32_221 : BitVec 32 := 0#32
  let v359 : BitVec 1 := Scalar.cmpi .slt v355 c0_i32_221
  let v360 : BitVec 1 := Scalar.xori v358 v359
  let c0_i32_219 : BitVec 32 := 0#32
  let v357 : BitVec 1 := Scalar.cmpi .ne v356 c0_i32_219
  let v361 : BitVec 1 := Scalar.andi v360 v357
  let v362 : BitVec 32 := Scalar.addi v356 v355
  let v363 : BitVec 32 := Scalar.select v361 v362 v356
  let c1_i32_223 : BitVec 32 := 1#32
  let v364 : BitVec 32 := Scalar.muli v363 c1_i32_223
  let v365 : BitVec 32 := Scalar.addi c0_i32_224 v364
  v365.toNat
def k0_dev18 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v366 : BitVec 32 := Scalar.addi v2 c18_i32
  let c32_i32_225 : BitVec 32 := 32#32
  let c0_i32_226 : BitVec 32 := 0#32
  let v367 : BitVec 1 := Scalar.cmpi .eq c32_i32_225 c0_i32_226
  let c1_i32_227 : BitVec 32 := 1#32
  let v368 : BitVec 32 := Scalar.select v367 c1_i32_227 c32_i32_225
  let v369 : BitVec 32 := Scalar.remsi v366 v368
  let c0_i32_229 : BitVec 32 := 0#32
  let v371 : BitVec 1 := Scalar.cmpi .slt v369 c0_i32_229
  let c0_i32_230 : BitVec 32 := 0#32
  let v372 : BitVec 1 := Scalar.cmpi .slt v368 c0_i32_230
  let v373 : BitVec 1 := Scalar.xori v371 v372
  let c0_i32_228 : BitVec 32 := 0#32
  let v370 : BitVec 1 := Scalar.cmpi .ne v369 c0_i32_228
  let v374 : BitVec 1 := Scalar.andi v373 v370
  let v375 : BitVec 32 := Scalar.addi v369 v368
  let v376 : BitVec 32 := Scalar.select v374 v375 v369
  let c1_i32_232 : BitVec 32 := 1#32
  let v377 : BitVec 32 := Scalar.muli v376 c1_i32_232
  let v378 : BitVec 32 := Scalar.addi c0_i32_233 v377
  v378.toNat
def k0_dev19 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v379 : BitVec 32 := Scalar.addi v2 c19_i32
  let c32_i32_234 : BitVec 32 := 32#32
  let c0_i32_235 : BitVec 32 := 0#32
  let v380 : BitVec 1 := Scalar.cmpi .eq c32_i32_234 c0_i32_235
  let c1_i32_236 : BitVec 32 := 1#32
  let v381 : BitVec 32 := Scalar.select v380 c1_i32_236 c32_i32_234
  let v382 : BitVec 32 := Scalar.remsi v379 v381
  let c0_i32_238 : BitVec 32 := 0#32
  let v384 : BitVec 1 := Scalar.cmpi .slt v382 c0_i32_238
  let c0_i32_239 : BitVec 32 := 0#32
  let v385 : BitVec 1 := Scalar.cmpi .slt v381 c0_i32_239
  let v386 : BitVec 1 := Scalar.xori v384 v385
  let c0_i32_237 : BitVec 32 := 0#32
  let v383 : BitVec 1 := Scalar.cmpi .ne v382 c0_i32_237
  let v387 : BitVec 1 := Scalar.andi v386 v383
  let v388 : BitVec 32 := Scalar.addi v382 v381
  let v389 : BitVec 32 := Scalar.select v387 v388 v382
  let c1_i32_241 : BitVec 32 := 1#32
  let v390 : BitVec 32 := Scalar.muli v389 c1_i32_241
  let v391 : BitVec 32 := Scalar.addi c0_i32_242 v390
  v391.toNat
def k0_dev20 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v392 : BitVec 32 := Scalar.addi v2 c20_i32
  let c32_i32_243 : BitVec 32 := 32#32
  let c0_i32_244 : BitVec 32 := 0#32
  let v393 : BitVec 1 := Scalar.cmpi .eq c32_i32_243 c0_i32_244
  let c1_i32_245 : BitVec 32 := 1#32
  let v394 : BitVec 32 := Scalar.select v393 c1_i32_245 c32_i32_243
  let v395 : BitVec 32 := Scalar.remsi v392 v394
  let c0_i32_247 : BitVec 32 := 0#32
  let v397 : BitVec 1 := Scalar.cmpi .slt v395 c0_i32_247
  let c0_i32_248 : BitVec 32 := 0#32
  let v398 : BitVec 1 := Scalar.cmpi .slt v394 c0_i32_248
  let v399 : BitVec 1 := Scalar.xori v397 v398
  let c0_i32_246 : BitVec 32 := 0#32
  let v396 : BitVec 1 := Scalar.cmpi .ne v395 c0_i32_246
  let v400 : BitVec 1 := Scalar.andi v399 v396
  let v401 : BitVec 32 := Scalar.addi v395 v394
  let v402 : BitVec 32 := Scalar.select v400 v401 v395
  let c1_i32_250 : BitVec 32 := 1#32
  let v403 : BitVec 32 := Scalar.muli v402 c1_i32_250
  let v404 : BitVec 32 := Scalar.addi c0_i32_251 v403
  v404.toNat
def k0_dev21 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v405 : BitVec 32 := Scalar.addi v2 c21_i32
  let c32_i32_252 : BitVec 32 := 32#32
  let c0_i32_253 : BitVec 32 := 0#32
  let v406 : BitVec 1 := Scalar.cmpi .eq c32_i32_252 c0_i32_253
  let c1_i32_254 : BitVec 32 := 1#32
  let v407 : BitVec 32 := Scalar.select v406 c1_i32_254 c32_i32_252
  let v408 : BitVec 32 := Scalar.remsi v405 v407
  let c0_i32_256 : BitVec 32 := 0#32
  let v410 : BitVec 1 := Scalar.cmpi .slt v408 c0_i32_256
  let c0_i32_257 : BitVec 32 := 0#32
  let v411 : BitVec 1 := Scalar.cmpi .slt v407 c0_i32_257
  let v412 : BitVec 1 := Scalar.xori v410 v411
  let c0_i32_255 : BitVec 32 := 0#32
  let v409 : BitVec 1 := Scalar.cmpi .ne v408 c0_i32_255
  let v413 : BitVec 1 := Scalar.andi v412 v409
  let v414 : BitVec 32 := Scalar.addi v408 v407
  let v415 : BitVec 32 := Scalar.select v413 v414 v408
  let c1_i32_259 : BitVec 32 := 1#32
  let v416 : BitVec 32 := Scalar.muli v415 c1_i32_259
  let v417 : BitVec 32 := Scalar.addi c0_i32_260 v416
  v417.toNat
def k0_dev22 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v418 : BitVec 32 := Scalar.addi v2 c22_i32
  let c32_i32_261 : BitVec 32 := 32#32
  let c0_i32_262 : BitVec 32 := 0#32
  let v419 : BitVec 1 := Scalar.cmpi .eq c32_i32_261 c0_i32_262
  let c1_i32_263 : BitVec 32 := 1#32
  let v420 : BitVec 32 := Scalar.select v419 c1_i32_263 c32_i32_261
  let v421 : BitVec 32 := Scalar.remsi v418 v420
  let c0_i32_265 : BitVec 32 := 0#32
  let v423 : BitVec 1 := Scalar.cmpi .slt v421 c0_i32_265
  let c0_i32_266 : BitVec 32 := 0#32
  let v424 : BitVec 1 := Scalar.cmpi .slt v420 c0_i32_266
  let v425 : BitVec 1 := Scalar.xori v423 v424
  let c0_i32_264 : BitVec 32 := 0#32
  let v422 : BitVec 1 := Scalar.cmpi .ne v421 c0_i32_264
  let v426 : BitVec 1 := Scalar.andi v425 v422
  let v427 : BitVec 32 := Scalar.addi v421 v420
  let v428 : BitVec 32 := Scalar.select v426 v427 v421
  let c1_i32_268 : BitVec 32 := 1#32
  let v429 : BitVec 32 := Scalar.muli v428 c1_i32_268
  let v430 : BitVec 32 := Scalar.addi c0_i32_269 v429
  v430.toNat
def k0_dev23 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v431 : BitVec 32 := Scalar.addi v2 c23_i32
  let c32_i32_270 : BitVec 32 := 32#32
  let c0_i32_271 : BitVec 32 := 0#32
  let v432 : BitVec 1 := Scalar.cmpi .eq c32_i32_270 c0_i32_271
  let c1_i32_272 : BitVec 32 := 1#32
  let v433 : BitVec 32 := Scalar.select v432 c1_i32_272 c32_i32_270
  let v434 : BitVec 32 := Scalar.remsi v431 v433
  let c0_i32_274 : BitVec 32 := 0#32
  let v436 : BitVec 1 := Scalar.cmpi .slt v434 c0_i32_274
  let c0_i32_275 : BitVec 32 := 0#32
  let v437 : BitVec 1 := Scalar.cmpi .slt v433 c0_i32_275
  let v438 : BitVec 1 := Scalar.xori v436 v437
  let c0_i32_273 : BitVec 32 := 0#32
  let v435 : BitVec 1 := Scalar.cmpi .ne v434 c0_i32_273
  let v439 : BitVec 1 := Scalar.andi v438 v435
  let v440 : BitVec 32 := Scalar.addi v434 v433
  let v441 : BitVec 32 := Scalar.select v439 v440 v434
  let c1_i32_277 : BitVec 32 := 1#32
  let v442 : BitVec 32 := Scalar.muli v441 c1_i32_277
  let v443 : BitVec 32 := Scalar.addi c0_i32_278 v442
  v443.toNat
def k0_dev24 (d0 : Dev nD) : Nat :=
  let c0_i32_287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v444 : BitVec 32 := Scalar.addi v2 c24_i32
  let c32_i32_279 : BitVec 32 := 32#32
  let c0_i32_280 : BitVec 32 := 0#32
  let v445 : BitVec 1 := Scalar.cmpi .eq c32_i32_279 c0_i32_280
  let c1_i32_281 : BitVec 32 := 1#32
  let v446 : BitVec 32 := Scalar.select v445 c1_i32_281 c32_i32_279
  let v447 : BitVec 32 := Scalar.remsi v444 v446
  let c0_i32_283 : BitVec 32 := 0#32
  let v449 : BitVec 1 := Scalar.cmpi .slt v447 c0_i32_283
  let c0_i32_284 : BitVec 32 := 0#32
  let v450 : BitVec 1 := Scalar.cmpi .slt v446 c0_i32_284
  let v451 : BitVec 1 := Scalar.xori v449 v450
  let c0_i32_282 : BitVec 32 := 0#32
  let v448 : BitVec 1 := Scalar.cmpi .ne v447 c0_i32_282
  let v452 : BitVec 1 := Scalar.andi v451 v448
  let v453 : BitVec 32 := Scalar.addi v447 v446
  let v454 : BitVec 32 := Scalar.select v452 v453 v447
  let c1_i32_286 : BitVec 32 := 1#32
  let v455 : BitVec 32 := Scalar.muli v454 c1_i32_286
  let v456 : BitVec 32 := Scalar.addi c0_i32_287 v455
  v456.toNat
def k0_dev25 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v457 : BitVec 32 := Scalar.addi v2 c25_i32
  let c32_i32_288 : BitVec 32 := 32#32
  let c0_i32_289 : BitVec 32 := 0#32
  let v458 : BitVec 1 := Scalar.cmpi .eq c32_i32_288 c0_i32_289
  let c1_i32_290 : BitVec 32 := 1#32
  let v459 : BitVec 32 := Scalar.select v458 c1_i32_290 c32_i32_288
  let v460 : BitVec 32 := Scalar.remsi v457 v459
  let c0_i32_292 : BitVec 32 := 0#32
  let v462 : BitVec 1 := Scalar.cmpi .slt v460 c0_i32_292
  let c0_i32_293 : BitVec 32 := 0#32
  let v463 : BitVec 1 := Scalar.cmpi .slt v459 c0_i32_293
  let v464 : BitVec 1 := Scalar.xori v462 v463
  let c0_i32_291 : BitVec 32 := 0#32
  let v461 : BitVec 1 := Scalar.cmpi .ne v460 c0_i32_291
  let v465 : BitVec 1 := Scalar.andi v464 v461
  let v466 : BitVec 32 := Scalar.addi v460 v459
  let v467 : BitVec 32 := Scalar.select v465 v466 v460
  let c1_i32_295 : BitVec 32 := 1#32
  let v468 : BitVec 32 := Scalar.muli v467 c1_i32_295
  let v469 : BitVec 32 := Scalar.addi c0_i32_296 v468
  v469.toNat
def k0_dev26 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v470 : BitVec 32 := Scalar.addi v2 c26_i32
  let c32_i32_297 : BitVec 32 := 32#32
  let c0_i32_298 : BitVec 32 := 0#32
  let v471 : BitVec 1 := Scalar.cmpi .eq c32_i32_297 c0_i32_298
  let c1_i32_299 : BitVec 32 := 1#32
  let v472 : BitVec 32 := Scalar.select v471 c1_i32_299 c32_i32_297
  let v473 : BitVec 32 := Scalar.remsi v470 v472
  let c0_i32_301 : BitVec 32 := 0#32
  let v475 : BitVec 1 := Scalar.cmpi .slt v473 c0_i32_301
  let c0_i32_302 : BitVec 32 := 0#32
  let v476 : BitVec 1 := Scalar.cmpi .slt v472 c0_i32_302
  let v477 : BitVec 1 := Scalar.xori v475 v476
  let c0_i32_300 : BitVec 32 := 0#32
  let v474 : BitVec 1 := Scalar.cmpi .ne v473 c0_i32_300
  let v478 : BitVec 1 := Scalar.andi v477 v474
  let v479 : BitVec 32 := Scalar.addi v473 v472
  let v480 : BitVec 32 := Scalar.select v478 v479 v473
  let c1_i32_304 : BitVec 32 := 1#32
  let v481 : BitVec 32 := Scalar.muli v480 c1_i32_304
  let v482 : BitVec 32 := Scalar.addi c0_i32_305 v481
  v482.toNat
def k0_dev27 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v483 : BitVec 32 := Scalar.addi v2 c27_i32
  let c32_i32_306 : BitVec 32 := 32#32
  let c0_i32_307 : BitVec 32 := 0#32
  let v484 : BitVec 1 := Scalar.cmpi .eq c32_i32_306 c0_i32_307
  let c1_i32_308 : BitVec 32 := 1#32
  let v485 : BitVec 32 := Scalar.select v484 c1_i32_308 c32_i32_306
  let v486 : BitVec 32 := Scalar.remsi v483 v485
  let c0_i32_310 : BitVec 32 := 0#32
  let v488 : BitVec 1 := Scalar.cmpi .slt v486 c0_i32_310
  let c0_i32_311 : BitVec 32 := 0#32
  let v489 : BitVec 1 := Scalar.cmpi .slt v485 c0_i32_311
  let v490 : BitVec 1 := Scalar.xori v488 v489
  let c0_i32_309 : BitVec 32 := 0#32
  let v487 : BitVec 1 := Scalar.cmpi .ne v486 c0_i32_309
  let v491 : BitVec 1 := Scalar.andi v490 v487
  let v492 : BitVec 32 := Scalar.addi v486 v485
  let v493 : BitVec 32 := Scalar.select v491 v492 v486
  let c1_i32_313 : BitVec 32 := 1#32
  let v494 : BitVec 32 := Scalar.muli v493 c1_i32_313
  let v495 : BitVec 32 := Scalar.addi c0_i32_314 v494
  v495.toNat
def k0_dev28 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v496 : BitVec 32 := Scalar.addi v2 c28_i32
  let c32_i32_315 : BitVec 32 := 32#32
  let c0_i32_316 : BitVec 32 := 0#32
  let v497 : BitVec 1 := Scalar.cmpi .eq c32_i32_315 c0_i32_316
  let c1_i32_317 : BitVec 32 := 1#32
  let v498 : BitVec 32 := Scalar.select v497 c1_i32_317 c32_i32_315
  let v499 : BitVec 32 := Scalar.remsi v496 v498
  let c0_i32_319 : BitVec 32 := 0#32
  let v501 : BitVec 1 := Scalar.cmpi .slt v499 c0_i32_319
  let c0_i32_320 : BitVec 32 := 0#32
  let v502 : BitVec 1 := Scalar.cmpi .slt v498 c0_i32_320
  let v503 : BitVec 1 := Scalar.xori v501 v502
  let c0_i32_318 : BitVec 32 := 0#32
  let v500 : BitVec 1 := Scalar.cmpi .ne v499 c0_i32_318
  let v504 : BitVec 1 := Scalar.andi v503 v500
  let v505 : BitVec 32 := Scalar.addi v499 v498
  let v506 : BitVec 32 := Scalar.select v504 v505 v499
  let c1_i32_322 : BitVec 32 := 1#32
  let v507 : BitVec 32 := Scalar.muli v506 c1_i32_322
  let v508 : BitVec 32 := Scalar.addi c0_i32_323 v507
  v508.toNat
def k0_dev29 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v509 : BitVec 32 := Scalar.addi v2 c29_i32
  let c32_i32_324 : BitVec 32 := 32#32
  let c0_i32_325 : BitVec 32 := 0#32
  let v510 : BitVec 1 := Scalar.cmpi .eq c32_i32_324 c0_i32_325
  let c1_i32_326 : BitVec 32 := 1#32
  let v511 : BitVec 32 := Scalar.select v510 c1_i32_326 c32_i32_324
  let v512 : BitVec 32 := Scalar.remsi v509 v511
  let c0_i32_328 : BitVec 32 := 0#32
  let v514 : BitVec 1 := Scalar.cmpi .slt v512 c0_i32_328
  let c0_i32_329 : BitVec 32 := 0#32
  let v515 : BitVec 1 := Scalar.cmpi .slt v511 c0_i32_329
  let v516 : BitVec 1 := Scalar.xori v514 v515
  let c0_i32_327 : BitVec 32 := 0#32
  let v513 : BitVec 1 := Scalar.cmpi .ne v512 c0_i32_327
  let v517 : BitVec 1 := Scalar.andi v516 v513
  let v518 : BitVec 32 := Scalar.addi v512 v511
  let v519 : BitVec 32 := Scalar.select v517 v518 v512
  let c1_i32_331 : BitVec 32 := 1#32
  let v520 : BitVec 32 := Scalar.muli v519 c1_i32_331
  let v521 : BitVec 32 := Scalar.addi c0_i32_332 v520
  v521.toNat
def k0_dev30 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v522 : BitVec 32 := Scalar.addi v2 c30_i32
  let c32_i32_333 : BitVec 32 := 32#32
  let c0_i32_334 : BitVec 32 := 0#32
  let v523 : BitVec 1 := Scalar.cmpi .eq c32_i32_333 c0_i32_334
  let c1_i32_335 : BitVec 32 := 1#32
  let v524 : BitVec 32 := Scalar.select v523 c1_i32_335 c32_i32_333
  let v525 : BitVec 32 := Scalar.remsi v522 v524
  let c0_i32_337 : BitVec 32 := 0#32
  let v527 : BitVec 1 := Scalar.cmpi .slt v525 c0_i32_337
  let c0_i32_338 : BitVec 32 := 0#32
  let v528 : BitVec 1 := Scalar.cmpi .slt v524 c0_i32_338
  let v529 : BitVec 1 := Scalar.xori v527 v528
  let c0_i32_336 : BitVec 32 := 0#32
  let v526 : BitVec 1 := Scalar.cmpi .ne v525 c0_i32_336
  let v530 : BitVec 1 := Scalar.andi v529 v526
  let v531 : BitVec 32 := Scalar.addi v525 v524
  let v532 : BitVec 32 := Scalar.select v530 v531 v525
  let c1_i32_340 : BitVec 32 := 1#32
  let v533 : BitVec 32 := Scalar.muli v532 c1_i32_340
  let v534 : BitVec 32 := Scalar.addi c0_i32_341 v533
  v534.toNat
def k0_dev31 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v535 : BitVec 32 := Scalar.addi v2 c31_i32
  let c32_i32_342 : BitVec 32 := 32#32
  let c0_i32_343 : BitVec 32 := 0#32
  let v536 : BitVec 1 := Scalar.cmpi .eq c32_i32_342 c0_i32_343
  let c1_i32_344 : BitVec 32 := 1#32
  let v537 : BitVec 32 := Scalar.select v536 c1_i32_344 c32_i32_342
  let v538 : BitVec 32 := Scalar.remsi v535 v537
  let c0_i32_346 : BitVec 32 := 0#32
  let v540 : BitVec 1 := Scalar.cmpi .slt v538 c0_i32_346
  let c0_i32_347 : BitVec 32 := 0#32
  let v541 : BitVec 1 := Scalar.cmpi .slt v537 c0_i32_347
  let v542 : BitVec 1 := Scalar.xori v540 v541
  let c0_i32_345 : BitVec 32 := 0#32
  let v539 : BitVec 1 := Scalar.cmpi .ne v538 c0_i32_345
  let v543 : BitVec 1 := Scalar.andi v542 v539
  let v544 : BitVec 32 := Scalar.addi v538 v537
  let v545 : BitVec 32 := Scalar.select v543 v544 v538
  let c1_i32_349 : BitVec 32 := 1#32
  let v546 : BitVec 32 := Scalar.muli v545 c1_i32_349
  let v547 : BitVec 32 := Scalar.addi c0_i32_350 v546
  v547.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_359 : BitVec 32 := 32#32
  let v559 : BitVec 32 := Scalar.muli v2 c32_i32_359
  let c0_i32_364 : BitVec 32 := 0#32
  ![v559.toNat, 0]
def k0_off4 (d0 : Dev nD) (c1_i32_352 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v548 : BitVec 32 := Scalar.addi v2 c1_i32_352
  let c32_i32_353 : BitVec 32 := 32#32
  let c0_i32_354 : BitVec 32 := 0#32
  let v549 : BitVec 1 := Scalar.cmpi .eq c32_i32_353 c0_i32_354
  let c1_i32_355 : BitVec 32 := 1#32
  let v550 : BitVec 32 := Scalar.select v549 c1_i32_355 c32_i32_353
  let v551 : BitVec 32 := Scalar.remsi v548 v550
  let c0_i32_357 : BitVec 32 := 0#32
  let v553 : BitVec 1 := Scalar.cmpi .slt v551 c0_i32_357
  let c0_i32_358 : BitVec 32 := 0#32
  let v554 : BitVec 1 := Scalar.cmpi .slt v550 c0_i32_358
  let v555 : BitVec 1 := Scalar.xori v553 v554
  let c0_i32_356 : BitVec 32 := 0#32
  let v552 : BitVec 1 := Scalar.cmpi .ne v551 c0_i32_356
  let v556 : BitVec 1 := Scalar.andi v555 v552
  let v557 : BitVec 32 := Scalar.addi v551 v550
  let v558 : BitVec 32 := Scalar.select v556 v557 v551
  let c0_i32_365 : BitVec 32 := 0#32
  let c0_i32_366 : BitVec 32 := 0#32
  ![v558.toNat, 0, 0]
def k0_dev32 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_352 : BitVec 32 := 1#32
  let v548 : BitVec 32 := Scalar.addi v2 c1_i32_352
  let c32_i32_353 : BitVec 32 := 32#32
  let c0_i32_354 : BitVec 32 := 0#32
  let v549 : BitVec 1 := Scalar.cmpi .eq c32_i32_353 c0_i32_354
  let c1_i32_355 : BitVec 32 := 1#32
  let v550 : BitVec 32 := Scalar.select v549 c1_i32_355 c32_i32_353
  let v551 : BitVec 32 := Scalar.remsi v548 v550
  let c0_i32_357 : BitVec 32 := 0#32
  let v553 : BitVec 1 := Scalar.cmpi .slt v551 c0_i32_357
  let c0_i32_358 : BitVec 32 := 0#32
  let v554 : BitVec 1 := Scalar.cmpi .slt v550 c0_i32_358
  let v555 : BitVec 1 := Scalar.xori v553 v554
  let c0_i32_356 : BitVec 32 := 0#32
  let v552 : BitVec 1 := Scalar.cmpi .ne v551 c0_i32_356
  let v556 : BitVec 1 := Scalar.andi v555 v552
  let v557 : BitVec 32 := Scalar.addi v551 v550
  let v558 : BitVec 32 := Scalar.select v556 v557 v551
  let c1_i32_362 : BitVec 32 := 1#32
  let v560 : BitVec 32 := Scalar.muli v558 c1_i32_362
  let v561 : BitVec 32 := Scalar.addi c0_i32_363 v560
  v561.toNat
def k0_dev33 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_367 : BitVec 32 := 2#32
  let v569 : BitVec 32 := Scalar.addi v2 c2_i32_367
  let c32_i32_368 : BitVec 32 := 32#32
  let c0_i32_369 : BitVec 32 := 0#32
  let v570 : BitVec 1 := Scalar.cmpi .eq c32_i32_368 c0_i32_369
  let c1_i32_370 : BitVec 32 := 1#32
  let v571 : BitVec 32 := Scalar.select v570 c1_i32_370 c32_i32_368
  let v572 : BitVec 32 := Scalar.remsi v569 v571
  let c0_i32_372 : BitVec 32 := 0#32
  let v574 : BitVec 1 := Scalar.cmpi .slt v572 c0_i32_372
  let c0_i32_373 : BitVec 32 := 0#32
  let v575 : BitVec 1 := Scalar.cmpi .slt v571 c0_i32_373
  let v576 : BitVec 1 := Scalar.xori v574 v575
  let c0_i32_371 : BitVec 32 := 0#32
  let v573 : BitVec 1 := Scalar.cmpi .ne v572 c0_i32_371
  let v577 : BitVec 1 := Scalar.andi v576 v573
  let v578 : BitVec 32 := Scalar.addi v572 v571
  let v579 : BitVec 32 := Scalar.select v577 v578 v572
  let c1_i32_377 : BitVec 32 := 1#32
  let v581 : BitVec 32 := Scalar.muli v579 c1_i32_377
  let v582 : BitVec 32 := Scalar.addi c0_i32_378 v581
  v582.toNat
def k0_dev34 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_382 : BitVec 32 := 3#32
  let v590 : BitVec 32 := Scalar.addi v2 c3_i32_382
  let c32_i32_383 : BitVec 32 := 32#32
  let c0_i32_384 : BitVec 32 := 0#32
  let v591 : BitVec 1 := Scalar.cmpi .eq c32_i32_383 c0_i32_384
  let c1_i32_385 : BitVec 32 := 1#32
  let v592 : BitVec 32 := Scalar.select v591 c1_i32_385 c32_i32_383
  let v593 : BitVec 32 := Scalar.remsi v590 v592
  let c0_i32_387 : BitVec 32 := 0#32
  let v595 : BitVec 1 := Scalar.cmpi .slt v593 c0_i32_387
  let c0_i32_388 : BitVec 32 := 0#32
  let v596 : BitVec 1 := Scalar.cmpi .slt v592 c0_i32_388
  let v597 : BitVec 1 := Scalar.xori v595 v596
  let c0_i32_386 : BitVec 32 := 0#32
  let v594 : BitVec 1 := Scalar.cmpi .ne v593 c0_i32_386
  let v598 : BitVec 1 := Scalar.andi v597 v594
  let v599 : BitVec 32 := Scalar.addi v593 v592
  let v600 : BitVec 32 := Scalar.select v598 v599 v593
  let c1_i32_392 : BitVec 32 := 1#32
  let v602 : BitVec 32 := Scalar.muli v600 c1_i32_392
  let v603 : BitVec 32 := Scalar.addi c0_i32_393 v602
  v603.toNat
def k0_dev35 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_397 : BitVec 32 := 4#32
  let v611 : BitVec 32 := Scalar.addi v2 c4_i32_397
  let c32_i32_398 : BitVec 32 := 32#32
  let c0_i32_399 : BitVec 32 := 0#32
  let v612 : BitVec 1 := Scalar.cmpi .eq c32_i32_398 c0_i32_399
  let c1_i32_400 : BitVec 32 := 1#32
  let v613 : BitVec 32 := Scalar.select v612 c1_i32_400 c32_i32_398
  let v614 : BitVec 32 := Scalar.remsi v611 v613
  let c0_i32_402 : BitVec 32 := 0#32
  let v616 : BitVec 1 := Scalar.cmpi .slt v614 c0_i32_402
  let c0_i32_403 : BitVec 32 := 0#32
  let v617 : BitVec 1 := Scalar.cmpi .slt v613 c0_i32_403
  let v618 : BitVec 1 := Scalar.xori v616 v617
  let c0_i32_401 : BitVec 32 := 0#32
  let v615 : BitVec 1 := Scalar.cmpi .ne v614 c0_i32_401
  let v619 : BitVec 1 := Scalar.andi v618 v615
  let v620 : BitVec 32 := Scalar.addi v614 v613
  let v621 : BitVec 32 := Scalar.select v619 v620 v614
  let c1_i32_407 : BitVec 32 := 1#32
  let v623 : BitVec 32 := Scalar.muli v621 c1_i32_407
  let v624 : BitVec 32 := Scalar.addi c0_i32_408 v623
  v624.toNat
def k0_dev36 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_412 : BitVec 32 := 5#32
  let v632 : BitVec 32 := Scalar.addi v2 c5_i32_412
  let c32_i32_413 : BitVec 32 := 32#32
  let c0_i32_414 : BitVec 32 := 0#32
  let v633 : BitVec 1 := Scalar.cmpi .eq c32_i32_413 c0_i32_414
  let c1_i32_415 : BitVec 32 := 1#32
  let v634 : BitVec 32 := Scalar.select v633 c1_i32_415 c32_i32_413
  let v635 : BitVec 32 := Scalar.remsi v632 v634
  let c0_i32_417 : BitVec 32 := 0#32
  let v637 : BitVec 1 := Scalar.cmpi .slt v635 c0_i32_417
  let c0_i32_418 : BitVec 32 := 0#32
  let v638 : BitVec 1 := Scalar.cmpi .slt v634 c0_i32_418
  let v639 : BitVec 1 := Scalar.xori v637 v638
  let c0_i32_416 : BitVec 32 := 0#32
  let v636 : BitVec 1 := Scalar.cmpi .ne v635 c0_i32_416
  let v640 : BitVec 1 := Scalar.andi v639 v636
  let v641 : BitVec 32 := Scalar.addi v635 v634
  let v642 : BitVec 32 := Scalar.select v640 v641 v635
  let c1_i32_422 : BitVec 32 := 1#32
  let v644 : BitVec 32 := Scalar.muli v642 c1_i32_422
  let v645 : BitVec 32 := Scalar.addi c0_i32_423 v644
  v645.toNat
def k0_dev37 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_427 : BitVec 32 := 6#32
  let v653 : BitVec 32 := Scalar.addi v2 c6_i32_427
  let c32_i32_428 : BitVec 32 := 32#32
  let c0_i32_429 : BitVec 32 := 0#32
  let v654 : BitVec 1 := Scalar.cmpi .eq c32_i32_428 c0_i32_429
  let c1_i32_430 : BitVec 32 := 1#32
  let v655 : BitVec 32 := Scalar.select v654 c1_i32_430 c32_i32_428
  let v656 : BitVec 32 := Scalar.remsi v653 v655
  let c0_i32_432 : BitVec 32 := 0#32
  let v658 : BitVec 1 := Scalar.cmpi .slt v656 c0_i32_432
  let c0_i32_433 : BitVec 32 := 0#32
  let v659 : BitVec 1 := Scalar.cmpi .slt v655 c0_i32_433
  let v660 : BitVec 1 := Scalar.xori v658 v659
  let c0_i32_431 : BitVec 32 := 0#32
  let v657 : BitVec 1 := Scalar.cmpi .ne v656 c0_i32_431
  let v661 : BitVec 1 := Scalar.andi v660 v657
  let v662 : BitVec 32 := Scalar.addi v656 v655
  let v663 : BitVec 32 := Scalar.select v661 v662 v656
  let c1_i32_437 : BitVec 32 := 1#32
  let v665 : BitVec 32 := Scalar.muli v663 c1_i32_437
  let v666 : BitVec 32 := Scalar.addi c0_i32_438 v665
  v666.toNat
def k0_dev38 (d0 : Dev nD) : Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_442 : BitVec 32 := 7#32
  let v674 : BitVec 32 := Scalar.addi v2 c7_i32_442
  let c32_i32_443 : BitVec 32 := 32#32
  let c0_i32_444 : BitVec 32 := 0#32
  let v675 : BitVec 1 := Scalar.cmpi .eq c32_i32_443 c0_i32_444
  let c1_i32_445 : BitVec 32 := 1#32
  let v676 : BitVec 32 := Scalar.select v675 c1_i32_445 c32_i32_443
  let v677 : BitVec 32 := Scalar.remsi v674 v676
  let c0_i32_447 : BitVec 32 := 0#32
  let v679 : BitVec 1 := Scalar.cmpi .slt v677 c0_i32_447
  let c0_i32_448 : BitVec 32 := 0#32
  let v680 : BitVec 1 := Scalar.cmpi .slt v676 c0_i32_448
  let v681 : BitVec 1 := Scalar.xori v679 v680
  let c0_i32_446 : BitVec 32 := 0#32
  let v678 : BitVec 1 := Scalar.cmpi .ne v677 c0_i32_446
  let v682 : BitVec 1 := Scalar.andi v681 v678
  let v683 : BitVec 32 := Scalar.addi v677 v676
  let v684 : BitVec 32 := Scalar.select v682 v683 v677
  let c1_i32_452 : BitVec 32 := 1#32
  let v686 : BitVec 32 := Scalar.muli v684 c1_i32_452
  let v687 : BitVec 32 := Scalar.addi c0_i32_453 v686
  v687.toNat
def k0_dev39 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_457 : BitVec 32 := 8#32
  let v695 : BitVec 32 := Scalar.addi v2 c8_i32_457
  let c32_i32_458 : BitVec 32 := 32#32
  let c0_i32_459 : BitVec 32 := 0#32
  let v696 : BitVec 1 := Scalar.cmpi .eq c32_i32_458 c0_i32_459
  let c1_i32_460 : BitVec 32 := 1#32
  let v697 : BitVec 32 := Scalar.select v696 c1_i32_460 c32_i32_458
  let v698 : BitVec 32 := Scalar.remsi v695 v697
  let c0_i32_462 : BitVec 32 := 0#32
  let v700 : BitVec 1 := Scalar.cmpi .slt v698 c0_i32_462
  let c0_i32_463 : BitVec 32 := 0#32
  let v701 : BitVec 1 := Scalar.cmpi .slt v697 c0_i32_463
  let v702 : BitVec 1 := Scalar.xori v700 v701
  let c0_i32_461 : BitVec 32 := 0#32
  let v699 : BitVec 1 := Scalar.cmpi .ne v698 c0_i32_461
  let v703 : BitVec 1 := Scalar.andi v702 v699
  let v704 : BitVec 32 := Scalar.addi v698 v697
  let v705 : BitVec 32 := Scalar.select v703 v704 v698
  let c1_i32_467 : BitVec 32 := 1#32
  let v707 : BitVec 32 := Scalar.muli v705 c1_i32_467
  let v708 : BitVec 32 := Scalar.addi c0_i32_468 v707
  v708.toNat
def k0_dev40 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_472 : BitVec 32 := 9#32
  let v716 : BitVec 32 := Scalar.addi v2 c9_i32_472
  let c32_i32_473 : BitVec 32 := 32#32
  let c0_i32_474 : BitVec 32 := 0#32
  let v717 : BitVec 1 := Scalar.cmpi .eq c32_i32_473 c0_i32_474
  let c1_i32_475 : BitVec 32 := 1#32
  let v718 : BitVec 32 := Scalar.select v717 c1_i32_475 c32_i32_473
  let v719 : BitVec 32 := Scalar.remsi v716 v718
  let c0_i32_477 : BitVec 32 := 0#32
  let v721 : BitVec 1 := Scalar.cmpi .slt v719 c0_i32_477
  let c0_i32_478 : BitVec 32 := 0#32
  let v722 : BitVec 1 := Scalar.cmpi .slt v718 c0_i32_478
  let v723 : BitVec 1 := Scalar.xori v721 v722
  let c0_i32_476 : BitVec 32 := 0#32
  let v720 : BitVec 1 := Scalar.cmpi .ne v719 c0_i32_476
  let v724 : BitVec 1 := Scalar.andi v723 v720
  let v725 : BitVec 32 := Scalar.addi v719 v718
  let v726 : BitVec 32 := Scalar.select v724 v725 v719
  let c1_i32_482 : BitVec 32 := 1#32
  let v728 : BitVec 32 := Scalar.muli v726 c1_i32_482
  let v729 : BitVec 32 := Scalar.addi c0_i32_483 v728
  v729.toNat
def k0_dev41 (d0 : Dev nD) : Nat :=
  let c0_i32_498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_487 : BitVec 32 := 10#32
  let v737 : BitVec 32 := Scalar.addi v2 c10_i32_487
  let c32_i32_488 : BitVec 32 := 32#32
  let c0_i32_489 : BitVec 32 := 0#32
  let v738 : BitVec 1 := Scalar.cmpi .eq c32_i32_488 c0_i32_489
  let c1_i32_490 : BitVec 32 := 1#32
  let v739 : BitVec 32 := Scalar.select v738 c1_i32_490 c32_i32_488
  let v740 : BitVec 32 := Scalar.remsi v737 v739
  let c0_i32_492 : BitVec 32 := 0#32
  let v742 : BitVec 1 := Scalar.cmpi .slt v740 c0_i32_492
  let c0_i32_493 : BitVec 32 := 0#32
  let v743 : BitVec 1 := Scalar.cmpi .slt v739 c0_i32_493
  let v744 : BitVec 1 := Scalar.xori v742 v743
  let c0_i32_491 : BitVec 32 := 0#32
  let v741 : BitVec 1 := Scalar.cmpi .ne v740 c0_i32_491
  let v745 : BitVec 1 := Scalar.andi v744 v741
  let v746 : BitVec 32 := Scalar.addi v740 v739
  let v747 : BitVec 32 := Scalar.select v745 v746 v740
  let c1_i32_497 : BitVec 32 := 1#32
  let v749 : BitVec 32 := Scalar.muli v747 c1_i32_497
  let v750 : BitVec 32 := Scalar.addi c0_i32_498 v749
  v750.toNat
def k0_dev42 (d0 : Dev nD) : Nat :=
  let c0_i32_513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_502 : BitVec 32 := 11#32
  let v758 : BitVec 32 := Scalar.addi v2 c11_i32_502
  let c32_i32_503 : BitVec 32 := 32#32
  let c0_i32_504 : BitVec 32 := 0#32
  let v759 : BitVec 1 := Scalar.cmpi .eq c32_i32_503 c0_i32_504
  let c1_i32_505 : BitVec 32 := 1#32
  let v760 : BitVec 32 := Scalar.select v759 c1_i32_505 c32_i32_503
  let v761 : BitVec 32 := Scalar.remsi v758 v760
  let c0_i32_507 : BitVec 32 := 0#32
  let v763 : BitVec 1 := Scalar.cmpi .slt v761 c0_i32_507
  let c0_i32_508 : BitVec 32 := 0#32
  let v764 : BitVec 1 := Scalar.cmpi .slt v760 c0_i32_508
  let v765 : BitVec 1 := Scalar.xori v763 v764
  let c0_i32_506 : BitVec 32 := 0#32
  let v762 : BitVec 1 := Scalar.cmpi .ne v761 c0_i32_506
  let v766 : BitVec 1 := Scalar.andi v765 v762
  let v767 : BitVec 32 := Scalar.addi v761 v760
  let v768 : BitVec 32 := Scalar.select v766 v767 v761
  let c1_i32_512 : BitVec 32 := 1#32
  let v770 : BitVec 32 := Scalar.muli v768 c1_i32_512
  let v771 : BitVec 32 := Scalar.addi c0_i32_513 v770
  v771.toNat
def k0_dev43 (d0 : Dev nD) : Nat :=
  let c0_i32_528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_517 : BitVec 32 := 12#32
  let v779 : BitVec 32 := Scalar.addi v2 c12_i32_517
  let c32_i32_518 : BitVec 32 := 32#32
  let c0_i32_519 : BitVec 32 := 0#32
  let v780 : BitVec 1 := Scalar.cmpi .eq c32_i32_518 c0_i32_519
  let c1_i32_520 : BitVec 32 := 1#32
  let v781 : BitVec 32 := Scalar.select v780 c1_i32_520 c32_i32_518
  let v782 : BitVec 32 := Scalar.remsi v779 v781
  let c0_i32_522 : BitVec 32 := 0#32
  let v784 : BitVec 1 := Scalar.cmpi .slt v782 c0_i32_522
  let c0_i32_523 : BitVec 32 := 0#32
  let v785 : BitVec 1 := Scalar.cmpi .slt v781 c0_i32_523
  let v786 : BitVec 1 := Scalar.xori v784 v785
  let c0_i32_521 : BitVec 32 := 0#32
  let v783 : BitVec 1 := Scalar.cmpi .ne v782 c0_i32_521
  let v787 : BitVec 1 := Scalar.andi v786 v783
  let v788 : BitVec 32 := Scalar.addi v782 v781
  let v789 : BitVec 32 := Scalar.select v787 v788 v782
  let c1_i32_527 : BitVec 32 := 1#32
  let v791 : BitVec 32 := Scalar.muli v789 c1_i32_527
  let v792 : BitVec 32 := Scalar.addi c0_i32_528 v791
  v792.toNat
def k0_dev44 (d0 : Dev nD) : Nat :=
  let c0_i32_543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_532 : BitVec 32 := 13#32
  let v800 : BitVec 32 := Scalar.addi v2 c13_i32_532
  let c32_i32_533 : BitVec 32 := 32#32
  let c0_i32_534 : BitVec 32 := 0#32
  let v801 : BitVec 1 := Scalar.cmpi .eq c32_i32_533 c0_i32_534
  let c1_i32_535 : BitVec 32 := 1#32
  let v802 : BitVec 32 := Scalar.select v801 c1_i32_535 c32_i32_533
  let v803 : BitVec 32 := Scalar.remsi v800 v802
  let c0_i32_537 : BitVec 32 := 0#32
  let v805 : BitVec 1 := Scalar.cmpi .slt v803 c0_i32_537
  let c0_i32_538 : BitVec 32 := 0#32
  let v806 : BitVec 1 := Scalar.cmpi .slt v802 c0_i32_538
  let v807 : BitVec 1 := Scalar.xori v805 v806
  let c0_i32_536 : BitVec 32 := 0#32
  let v804 : BitVec 1 := Scalar.cmpi .ne v803 c0_i32_536
  let v808 : BitVec 1 := Scalar.andi v807 v804
  let v809 : BitVec 32 := Scalar.addi v803 v802
  let v810 : BitVec 32 := Scalar.select v808 v809 v803
  let c1_i32_542 : BitVec 32 := 1#32
  let v812 : BitVec 32 := Scalar.muli v810 c1_i32_542
  let v813 : BitVec 32 := Scalar.addi c0_i32_543 v812
  v813.toNat
def k0_dev45 (d0 : Dev nD) : Nat :=
  let c0_i32_558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_547 : BitVec 32 := 14#32
  let v821 : BitVec 32 := Scalar.addi v2 c14_i32_547
  let c32_i32_548 : BitVec 32 := 32#32
  let c0_i32_549 : BitVec 32 := 0#32
  let v822 : BitVec 1 := Scalar.cmpi .eq c32_i32_548 c0_i32_549
  let c1_i32_550 : BitVec 32 := 1#32
  let v823 : BitVec 32 := Scalar.select v822 c1_i32_550 c32_i32_548
  let v824 : BitVec 32 := Scalar.remsi v821 v823
  let c0_i32_552 : BitVec 32 := 0#32
  let v826 : BitVec 1 := Scalar.cmpi .slt v824 c0_i32_552
  let c0_i32_553 : BitVec 32 := 0#32
  let v827 : BitVec 1 := Scalar.cmpi .slt v823 c0_i32_553
  let v828 : BitVec 1 := Scalar.xori v826 v827
  let c0_i32_551 : BitVec 32 := 0#32
  let v825 : BitVec 1 := Scalar.cmpi .ne v824 c0_i32_551
  let v829 : BitVec 1 := Scalar.andi v828 v825
  let v830 : BitVec 32 := Scalar.addi v824 v823
  let v831 : BitVec 32 := Scalar.select v829 v830 v824
  let c1_i32_557 : BitVec 32 := 1#32
  let v833 : BitVec 32 := Scalar.muli v831 c1_i32_557
  let v834 : BitVec 32 := Scalar.addi c0_i32_558 v833
  v834.toNat
def k0_dev46 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_562 : BitVec 32 := 15#32
  let v842 : BitVec 32 := Scalar.addi v2 c15_i32_562
  let c32_i32_563 : BitVec 32 := 32#32
  let c0_i32_564 : BitVec 32 := 0#32
  let v843 : BitVec 1 := Scalar.cmpi .eq c32_i32_563 c0_i32_564
  let c1_i32_565 : BitVec 32 := 1#32
  let v844 : BitVec 32 := Scalar.select v843 c1_i32_565 c32_i32_563
  let v845 : BitVec 32 := Scalar.remsi v842 v844
  let c0_i32_567 : BitVec 32 := 0#32
  let v847 : BitVec 1 := Scalar.cmpi .slt v845 c0_i32_567
  let c0_i32_568 : BitVec 32 := 0#32
  let v848 : BitVec 1 := Scalar.cmpi .slt v844 c0_i32_568
  let v849 : BitVec 1 := Scalar.xori v847 v848
  let c0_i32_566 : BitVec 32 := 0#32
  let v846 : BitVec 1 := Scalar.cmpi .ne v845 c0_i32_566
  let v850 : BitVec 1 := Scalar.andi v849 v846
  let v851 : BitVec 32 := Scalar.addi v845 v844
  let v852 : BitVec 32 := Scalar.select v850 v851 v845
  let c1_i32_572 : BitVec 32 := 1#32
  let v854 : BitVec 32 := Scalar.muli v852 c1_i32_572
  let v855 : BitVec 32 := Scalar.addi c0_i32_573 v854
  v855.toNat
def k0_dev47 (d0 : Dev nD) : Nat :=
  let c0_i32_588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_577 : BitVec 32 := 16#32
  let v863 : BitVec 32 := Scalar.addi v2 c16_i32_577
  let c32_i32_578 : BitVec 32 := 32#32
  let c0_i32_579 : BitVec 32 := 0#32
  let v864 : BitVec 1 := Scalar.cmpi .eq c32_i32_578 c0_i32_579
  let c1_i32_580 : BitVec 32 := 1#32
  let v865 : BitVec 32 := Scalar.select v864 c1_i32_580 c32_i32_578
  let v866 : BitVec 32 := Scalar.remsi v863 v865
  let c0_i32_582 : BitVec 32 := 0#32
  let v868 : BitVec 1 := Scalar.cmpi .slt v866 c0_i32_582
  let c0_i32_583 : BitVec 32 := 0#32
  let v869 : BitVec 1 := Scalar.cmpi .slt v865 c0_i32_583
  let v870 : BitVec 1 := Scalar.xori v868 v869
  let c0_i32_581 : BitVec 32 := 0#32
  let v867 : BitVec 1 := Scalar.cmpi .ne v866 c0_i32_581
  let v871 : BitVec 1 := Scalar.andi v870 v867
  let v872 : BitVec 32 := Scalar.addi v866 v865
  let v873 : BitVec 32 := Scalar.select v871 v872 v866
  let c1_i32_587 : BitVec 32 := 1#32
  let v875 : BitVec 32 := Scalar.muli v873 c1_i32_587
  let v876 : BitVec 32 := Scalar.addi c0_i32_588 v875
  v876.toNat
def k0_dev48 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_592 : BitVec 32 := 17#32
  let v884 : BitVec 32 := Scalar.addi v2 c17_i32_592
  let c32_i32_593 : BitVec 32 := 32#32
  let c0_i32_594 : BitVec 32 := 0#32
  let v885 : BitVec 1 := Scalar.cmpi .eq c32_i32_593 c0_i32_594
  let c1_i32_595 : BitVec 32 := 1#32
  let v886 : BitVec 32 := Scalar.select v885 c1_i32_595 c32_i32_593
  let v887 : BitVec 32 := Scalar.remsi v884 v886
  let c0_i32_597 : BitVec 32 := 0#32
  let v889 : BitVec 1 := Scalar.cmpi .slt v887 c0_i32_597
  let c0_i32_598 : BitVec 32 := 0#32
  let v890 : BitVec 1 := Scalar.cmpi .slt v886 c0_i32_598
  let v891 : BitVec 1 := Scalar.xori v889 v890
  let c0_i32_596 : BitVec 32 := 0#32
  let v888 : BitVec 1 := Scalar.cmpi .ne v887 c0_i32_596
  let v892 : BitVec 1 := Scalar.andi v891 v888
  let v893 : BitVec 32 := Scalar.addi v887 v886
  let v894 : BitVec 32 := Scalar.select v892 v893 v887
  let c1_i32_602 : BitVec 32 := 1#32
  let v896 : BitVec 32 := Scalar.muli v894 c1_i32_602
  let v897 : BitVec 32 := Scalar.addi c0_i32_603 v896
  v897.toNat
def k0_dev49 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_607 : BitVec 32 := 18#32
  let v905 : BitVec 32 := Scalar.addi v2 c18_i32_607
  let c32_i32_608 : BitVec 32 := 32#32
  let c0_i32_609 : BitVec 32 := 0#32
  let v906 : BitVec 1 := Scalar.cmpi .eq c32_i32_608 c0_i32_609
  let c1_i32_610 : BitVec 32 := 1#32
  let v907 : BitVec 32 := Scalar.select v906 c1_i32_610 c32_i32_608
  let v908 : BitVec 32 := Scalar.remsi v905 v907
  let c0_i32_612 : BitVec 32 := 0#32
  let v910 : BitVec 1 := Scalar.cmpi .slt v908 c0_i32_612
  let c0_i32_613 : BitVec 32 := 0#32
  let v911 : BitVec 1 := Scalar.cmpi .slt v907 c0_i32_613
  let v912 : BitVec 1 := Scalar.xori v910 v911
  let c0_i32_611 : BitVec 32 := 0#32
  let v909 : BitVec 1 := Scalar.cmpi .ne v908 c0_i32_611
  let v913 : BitVec 1 := Scalar.andi v912 v909
  let v914 : BitVec 32 := Scalar.addi v908 v907
  let v915 : BitVec 32 := Scalar.select v913 v914 v908
  let c1_i32_617 : BitVec 32 := 1#32
  let v917 : BitVec 32 := Scalar.muli v915 c1_i32_617
  let v918 : BitVec 32 := Scalar.addi c0_i32_618 v917
  v918.toNat
def k0_dev50 (d0 : Dev nD) : Nat :=
  let c0_i32_633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_622 : BitVec 32 := 19#32
  let v926 : BitVec 32 := Scalar.addi v2 c19_i32_622
  let c32_i32_623 : BitVec 32 := 32#32
  let c0_i32_624 : BitVec 32 := 0#32
  let v927 : BitVec 1 := Scalar.cmpi .eq c32_i32_623 c0_i32_624
  let c1_i32_625 : BitVec 32 := 1#32
  let v928 : BitVec 32 := Scalar.select v927 c1_i32_625 c32_i32_623
  let v929 : BitVec 32 := Scalar.remsi v926 v928
  let c0_i32_627 : BitVec 32 := 0#32
  let v931 : BitVec 1 := Scalar.cmpi .slt v929 c0_i32_627
  let c0_i32_628 : BitVec 32 := 0#32
  let v932 : BitVec 1 := Scalar.cmpi .slt v928 c0_i32_628
  let v933 : BitVec 1 := Scalar.xori v931 v932
  let c0_i32_626 : BitVec 32 := 0#32
  let v930 : BitVec 1 := Scalar.cmpi .ne v929 c0_i32_626
  let v934 : BitVec 1 := Scalar.andi v933 v930
  let v935 : BitVec 32 := Scalar.addi v929 v928
  let v936 : BitVec 32 := Scalar.select v934 v935 v929
  let c1_i32_632 : BitVec 32 := 1#32
  let v938 : BitVec 32 := Scalar.muli v936 c1_i32_632
  let v939 : BitVec 32 := Scalar.addi c0_i32_633 v938
  v939.toNat
def k0_dev51 (d0 : Dev nD) : Nat :=
  let c0_i32_648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_637 : BitVec 32 := 20#32
  let v947 : BitVec 32 := Scalar.addi v2 c20_i32_637
  let c32_i32_638 : BitVec 32 := 32#32
  let c0_i32_639 : BitVec 32 := 0#32
  let v948 : BitVec 1 := Scalar.cmpi .eq c32_i32_638 c0_i32_639
  let c1_i32_640 : BitVec 32 := 1#32
  let v949 : BitVec 32 := Scalar.select v948 c1_i32_640 c32_i32_638
  let v950 : BitVec 32 := Scalar.remsi v947 v949
  let c0_i32_642 : BitVec 32 := 0#32
  let v952 : BitVec 1 := Scalar.cmpi .slt v950 c0_i32_642
  let c0_i32_643 : BitVec 32 := 0#32
  let v953 : BitVec 1 := Scalar.cmpi .slt v949 c0_i32_643
  let v954 : BitVec 1 := Scalar.xori v952 v953
  let c0_i32_641 : BitVec 32 := 0#32
  let v951 : BitVec 1 := Scalar.cmpi .ne v950 c0_i32_641
  let v955 : BitVec 1 := Scalar.andi v954 v951
  let v956 : BitVec 32 := Scalar.addi v950 v949
  let v957 : BitVec 32 := Scalar.select v955 v956 v950
  let c1_i32_647 : BitVec 32 := 1#32
  let v959 : BitVec 32 := Scalar.muli v957 c1_i32_647
  let v960 : BitVec 32 := Scalar.addi c0_i32_648 v959
  v960.toNat
def k0_dev52 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_652 : BitVec 32 := 21#32
  let v968 : BitVec 32 := Scalar.addi v2 c21_i32_652
  let c32_i32_653 : BitVec 32 := 32#32
  let c0_i32_654 : BitVec 32 := 0#32
  let v969 : BitVec 1 := Scalar.cmpi .eq c32_i32_653 c0_i32_654
  let c1_i32_655 : BitVec 32 := 1#32
  let v970 : BitVec 32 := Scalar.select v969 c1_i32_655 c32_i32_653
  let v971 : BitVec 32 := Scalar.remsi v968 v970
  let c0_i32_657 : BitVec 32 := 0#32
  let v973 : BitVec 1 := Scalar.cmpi .slt v971 c0_i32_657
  let c0_i32_658 : BitVec 32 := 0#32
  let v974 : BitVec 1 := Scalar.cmpi .slt v970 c0_i32_658
  let v975 : BitVec 1 := Scalar.xori v973 v974
  let c0_i32_656 : BitVec 32 := 0#32
  let v972 : BitVec 1 := Scalar.cmpi .ne v971 c0_i32_656
  let v976 : BitVec 1 := Scalar.andi v975 v972
  let v977 : BitVec 32 := Scalar.addi v971 v970
  let v978 : BitVec 32 := Scalar.select v976 v977 v971
  let c1_i32_662 : BitVec 32 := 1#32
  let v980 : BitVec 32 := Scalar.muli v978 c1_i32_662
  let v981 : BitVec 32 := Scalar.addi c0_i32_663 v980
  v981.toNat
def k0_dev53 (d0 : Dev nD) : Nat :=
  let c0_i32_678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_667 : BitVec 32 := 22#32
  let v989 : BitVec 32 := Scalar.addi v2 c22_i32_667
  let c32_i32_668 : BitVec 32 := 32#32
  let c0_i32_669 : BitVec 32 := 0#32
  let v990 : BitVec 1 := Scalar.cmpi .eq c32_i32_668 c0_i32_669
  let c1_i32_670 : BitVec 32 := 1#32
  let v991 : BitVec 32 := Scalar.select v990 c1_i32_670 c32_i32_668
  let v992 : BitVec 32 := Scalar.remsi v989 v991
  let c0_i32_672 : BitVec 32 := 0#32
  let v994 : BitVec 1 := Scalar.cmpi .slt v992 c0_i32_672
  let c0_i32_673 : BitVec 32 := 0#32
  let v995 : BitVec 1 := Scalar.cmpi .slt v991 c0_i32_673
  let v996 : BitVec 1 := Scalar.xori v994 v995
  let c0_i32_671 : BitVec 32 := 0#32
  let v993 : BitVec 1 := Scalar.cmpi .ne v992 c0_i32_671
  let v997 : BitVec 1 := Scalar.andi v996 v993
  let v998 : BitVec 32 := Scalar.addi v992 v991
  let v999 : BitVec 32 := Scalar.select v997 v998 v992
  let c1_i32_677 : BitVec 32 := 1#32
  let v1001 : BitVec 32 := Scalar.muli v999 c1_i32_677
  let v1002 : BitVec 32 := Scalar.addi c0_i32_678 v1001
  v1002.toNat
def k0_dev54 (d0 : Dev nD) : Nat :=
  let c0_i32_693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_682 : BitVec 32 := 23#32
  let v1010 : BitVec 32 := Scalar.addi v2 c23_i32_682
  let c32_i32_683 : BitVec 32 := 32#32
  let c0_i32_684 : BitVec 32 := 0#32
  let v1011 : BitVec 1 := Scalar.cmpi .eq c32_i32_683 c0_i32_684
  let c1_i32_685 : BitVec 32 := 1#32
  let v1012 : BitVec 32 := Scalar.select v1011 c1_i32_685 c32_i32_683
  let v1013 : BitVec 32 := Scalar.remsi v1010 v1012
  let c0_i32_687 : BitVec 32 := 0#32
  let v1015 : BitVec 1 := Scalar.cmpi .slt v1013 c0_i32_687
  let c0_i32_688 : BitVec 32 := 0#32
  let v1016 : BitVec 1 := Scalar.cmpi .slt v1012 c0_i32_688
  let v1017 : BitVec 1 := Scalar.xori v1015 v1016
  let c0_i32_686 : BitVec 32 := 0#32
  let v1014 : BitVec 1 := Scalar.cmpi .ne v1013 c0_i32_686
  let v1018 : BitVec 1 := Scalar.andi v1017 v1014
  let v1019 : BitVec 32 := Scalar.addi v1013 v1012
  let v1020 : BitVec 32 := Scalar.select v1018 v1019 v1013
  let c1_i32_692 : BitVec 32 := 1#32
  let v1022 : BitVec 32 := Scalar.muli v1020 c1_i32_692
  let v1023 : BitVec 32 := Scalar.addi c0_i32_693 v1022
  v1023.toNat
def k0_dev55 (d0 : Dev nD) : Nat :=
  let c0_i32_708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_697 : BitVec 32 := 24#32
  let v1031 : BitVec 32 := Scalar.addi v2 c24_i32_697
  let c32_i32_698 : BitVec 32 := 32#32
  let c0_i32_699 : BitVec 32 := 0#32
  let v1032 : BitVec 1 := Scalar.cmpi .eq c32_i32_698 c0_i32_699
  let c1_i32_700 : BitVec 32 := 1#32
  let v1033 : BitVec 32 := Scalar.select v1032 c1_i32_700 c32_i32_698
  let v1034 : BitVec 32 := Scalar.remsi v1031 v1033
  let c0_i32_702 : BitVec 32 := 0#32
  let v1036 : BitVec 1 := Scalar.cmpi .slt v1034 c0_i32_702
  let c0_i32_703 : BitVec 32 := 0#32
  let v1037 : BitVec 1 := Scalar.cmpi .slt v1033 c0_i32_703
  let v1038 : BitVec 1 := Scalar.xori v1036 v1037
  let c0_i32_701 : BitVec 32 := 0#32
  let v1035 : BitVec 1 := Scalar.cmpi .ne v1034 c0_i32_701
  let v1039 : BitVec 1 := Scalar.andi v1038 v1035
  let v1040 : BitVec 32 := Scalar.addi v1034 v1033
  let v1041 : BitVec 32 := Scalar.select v1039 v1040 v1034
  let c1_i32_707 : BitVec 32 := 1#32
  let v1043 : BitVec 32 := Scalar.muli v1041 c1_i32_707
  let v1044 : BitVec 32 := Scalar.addi c0_i32_708 v1043
  v1044.toNat
def k0_dev56 (d0 : Dev nD) : Nat :=
  let c0_i32_723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_712 : BitVec 32 := 25#32
  let v1052 : BitVec 32 := Scalar.addi v2 c25_i32_712
  let c32_i32_713 : BitVec 32 := 32#32
  let c0_i32_714 : BitVec 32 := 0#32
  let v1053 : BitVec 1 := Scalar.cmpi .eq c32_i32_713 c0_i32_714
  let c1_i32_715 : BitVec 32 := 1#32
  let v1054 : BitVec 32 := Scalar.select v1053 c1_i32_715 c32_i32_713
  let v1055 : BitVec 32 := Scalar.remsi v1052 v1054
  let c0_i32_717 : BitVec 32 := 0#32
  let v1057 : BitVec 1 := Scalar.cmpi .slt v1055 c0_i32_717
  let c0_i32_718 : BitVec 32 := 0#32
  let v1058 : BitVec 1 := Scalar.cmpi .slt v1054 c0_i32_718
  let v1059 : BitVec 1 := Scalar.xori v1057 v1058
  let c0_i32_716 : BitVec 32 := 0#32
  let v1056 : BitVec 1 := Scalar.cmpi .ne v1055 c0_i32_716
  let v1060 : BitVec 1 := Scalar.andi v1059 v1056
  let v1061 : BitVec 32 := Scalar.addi v1055 v1054
  let v1062 : BitVec 32 := Scalar.select v1060 v1061 v1055
  let c1_i32_722 : BitVec 32 := 1#32
  let v1064 : BitVec 32 := Scalar.muli v1062 c1_i32_722
  let v1065 : BitVec 32 := Scalar.addi c0_i32_723 v1064
  v1065.toNat
def k0_dev57 (d0 : Dev nD) : Nat :=
  let c0_i32_738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_727 : BitVec 32 := 26#32
  let v1073 : BitVec 32 := Scalar.addi v2 c26_i32_727
  let c32_i32_728 : BitVec 32 := 32#32
  let c0_i32_729 : BitVec 32 := 0#32
  let v1074 : BitVec 1 := Scalar.cmpi .eq c32_i32_728 c0_i32_729
  let c1_i32_730 : BitVec 32 := 1#32
  let v1075 : BitVec 32 := Scalar.select v1074 c1_i32_730 c32_i32_728
  let v1076 : BitVec 32 := Scalar.remsi v1073 v1075
  let c0_i32_732 : BitVec 32 := 0#32
  let v1078 : BitVec 1 := Scalar.cmpi .slt v1076 c0_i32_732
  let c0_i32_733 : BitVec 32 := 0#32
  let v1079 : BitVec 1 := Scalar.cmpi .slt v1075 c0_i32_733
  let v1080 : BitVec 1 := Scalar.xori v1078 v1079
  let c0_i32_731 : BitVec 32 := 0#32
  let v1077 : BitVec 1 := Scalar.cmpi .ne v1076 c0_i32_731
  let v1081 : BitVec 1 := Scalar.andi v1080 v1077
  let v1082 : BitVec 32 := Scalar.addi v1076 v1075
  let v1083 : BitVec 32 := Scalar.select v1081 v1082 v1076
  let c1_i32_737 : BitVec 32 := 1#32
  let v1085 : BitVec 32 := Scalar.muli v1083 c1_i32_737
  let v1086 : BitVec 32 := Scalar.addi c0_i32_738 v1085
  v1086.toNat
def k0_dev58 (d0 : Dev nD) : Nat :=
  let c0_i32_753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_742 : BitVec 32 := 27#32
  let v1094 : BitVec 32 := Scalar.addi v2 c27_i32_742
  let c32_i32_743 : BitVec 32 := 32#32
  let c0_i32_744 : BitVec 32 := 0#32
  let v1095 : BitVec 1 := Scalar.cmpi .eq c32_i32_743 c0_i32_744
  let c1_i32_745 : BitVec 32 := 1#32
  let v1096 : BitVec 32 := Scalar.select v1095 c1_i32_745 c32_i32_743
  let v1097 : BitVec 32 := Scalar.remsi v1094 v1096
  let c0_i32_747 : BitVec 32 := 0#32
  let v1099 : BitVec 1 := Scalar.cmpi .slt v1097 c0_i32_747
  let c0_i32_748 : BitVec 32 := 0#32
  let v1100 : BitVec 1 := Scalar.cmpi .slt v1096 c0_i32_748
  let v1101 : BitVec 1 := Scalar.xori v1099 v1100
  let c0_i32_746 : BitVec 32 := 0#32
  let v1098 : BitVec 1 := Scalar.cmpi .ne v1097 c0_i32_746
  let v1102 : BitVec 1 := Scalar.andi v1101 v1098
  let v1103 : BitVec 32 := Scalar.addi v1097 v1096
  let v1104 : BitVec 32 := Scalar.select v1102 v1103 v1097
  let c1_i32_752 : BitVec 32 := 1#32
  let v1106 : BitVec 32 := Scalar.muli v1104 c1_i32_752
  let v1107 : BitVec 32 := Scalar.addi c0_i32_753 v1106
  v1107.toNat
def k0_dev59 (d0 : Dev nD) : Nat :=
  let c0_i32_768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_757 : BitVec 32 := 28#32
  let v1115 : BitVec 32 := Scalar.addi v2 c28_i32_757
  let c32_i32_758 : BitVec 32 := 32#32
  let c0_i32_759 : BitVec 32 := 0#32
  let v1116 : BitVec 1 := Scalar.cmpi .eq c32_i32_758 c0_i32_759
  let c1_i32_760 : BitVec 32 := 1#32
  let v1117 : BitVec 32 := Scalar.select v1116 c1_i32_760 c32_i32_758
  let v1118 : BitVec 32 := Scalar.remsi v1115 v1117
  let c0_i32_762 : BitVec 32 := 0#32
  let v1120 : BitVec 1 := Scalar.cmpi .slt v1118 c0_i32_762
  let c0_i32_763 : BitVec 32 := 0#32
  let v1121 : BitVec 1 := Scalar.cmpi .slt v1117 c0_i32_763
  let v1122 : BitVec 1 := Scalar.xori v1120 v1121
  let c0_i32_761 : BitVec 32 := 0#32
  let v1119 : BitVec 1 := Scalar.cmpi .ne v1118 c0_i32_761
  let v1123 : BitVec 1 := Scalar.andi v1122 v1119
  let v1124 : BitVec 32 := Scalar.addi v1118 v1117
  let v1125 : BitVec 32 := Scalar.select v1123 v1124 v1118
  let c1_i32_767 : BitVec 32 := 1#32
  let v1127 : BitVec 32 := Scalar.muli v1125 c1_i32_767
  let v1128 : BitVec 32 := Scalar.addi c0_i32_768 v1127
  v1128.toNat
def k0_dev60 (d0 : Dev nD) : Nat :=
  let c0_i32_783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_772 : BitVec 32 := 29#32
  let v1136 : BitVec 32 := Scalar.addi v2 c29_i32_772
  let c32_i32_773 : BitVec 32 := 32#32
  let c0_i32_774 : BitVec 32 := 0#32
  let v1137 : BitVec 1 := Scalar.cmpi .eq c32_i32_773 c0_i32_774
  let c1_i32_775 : BitVec 32 := 1#32
  let v1138 : BitVec 32 := Scalar.select v1137 c1_i32_775 c32_i32_773
  let v1139 : BitVec 32 := Scalar.remsi v1136 v1138
  let c0_i32_777 : BitVec 32 := 0#32
  let v1141 : BitVec 1 := Scalar.cmpi .slt v1139 c0_i32_777
  let c0_i32_778 : BitVec 32 := 0#32
  let v1142 : BitVec 1 := Scalar.cmpi .slt v1138 c0_i32_778
  let v1143 : BitVec 1 := Scalar.xori v1141 v1142
  let c0_i32_776 : BitVec 32 := 0#32
  let v1140 : BitVec 1 := Scalar.cmpi .ne v1139 c0_i32_776
  let v1144 : BitVec 1 := Scalar.andi v1143 v1140
  let v1145 : BitVec 32 := Scalar.addi v1139 v1138
  let v1146 : BitVec 32 := Scalar.select v1144 v1145 v1139
  let c1_i32_782 : BitVec 32 := 1#32
  let v1148 : BitVec 32 := Scalar.muli v1146 c1_i32_782
  let v1149 : BitVec 32 := Scalar.addi c0_i32_783 v1148
  v1149.toNat
def k0_dev61 (d0 : Dev nD) : Nat :=
  let c0_i32_798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_787 : BitVec 32 := 30#32
  let v1157 : BitVec 32 := Scalar.addi v2 c30_i32_787
  let c32_i32_788 : BitVec 32 := 32#32
  let c0_i32_789 : BitVec 32 := 0#32
  let v1158 : BitVec 1 := Scalar.cmpi .eq c32_i32_788 c0_i32_789
  let c1_i32_790 : BitVec 32 := 1#32
  let v1159 : BitVec 32 := Scalar.select v1158 c1_i32_790 c32_i32_788
  let v1160 : BitVec 32 := Scalar.remsi v1157 v1159
  let c0_i32_792 : BitVec 32 := 0#32
  let v1162 : BitVec 1 := Scalar.cmpi .slt v1160 c0_i32_792
  let c0_i32_793 : BitVec 32 := 0#32
  let v1163 : BitVec 1 := Scalar.cmpi .slt v1159 c0_i32_793
  let v1164 : BitVec 1 := Scalar.xori v1162 v1163
  let c0_i32_791 : BitVec 32 := 0#32
  let v1161 : BitVec 1 := Scalar.cmpi .ne v1160 c0_i32_791
  let v1165 : BitVec 1 := Scalar.andi v1164 v1161
  let v1166 : BitVec 32 := Scalar.addi v1160 v1159
  let v1167 : BitVec 32 := Scalar.select v1165 v1166 v1160
  let c1_i32_797 : BitVec 32 := 1#32
  let v1169 : BitVec 32 := Scalar.muli v1167 c1_i32_797
  let v1170 : BitVec 32 := Scalar.addi c0_i32_798 v1169
  v1170.toNat
def k0_dev62 (d0 : Dev nD) : Nat :=
  let c0_i32_813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_802 : BitVec 32 := 31#32
  let v1178 : BitVec 32 := Scalar.addi v2 c31_i32_802
  let c32_i32_803 : BitVec 32 := 32#32
  let c0_i32_804 : BitVec 32 := 0#32
  let v1179 : BitVec 1 := Scalar.cmpi .eq c32_i32_803 c0_i32_804
  let c1_i32_805 : BitVec 32 := 1#32
  let v1180 : BitVec 32 := Scalar.select v1179 c1_i32_805 c32_i32_803
  let v1181 : BitVec 32 := Scalar.remsi v1178 v1180
  let c0_i32_807 : BitVec 32 := 0#32
  let v1183 : BitVec 1 := Scalar.cmpi .slt v1181 c0_i32_807
  let c0_i32_808 : BitVec 32 := 0#32
  let v1184 : BitVec 1 := Scalar.cmpi .slt v1180 c0_i32_808
  let v1185 : BitVec 1 := Scalar.xori v1183 v1184
  let c0_i32_806 : BitVec 32 := 0#32
  let v1182 : BitVec 1 := Scalar.cmpi .ne v1181 c0_i32_806
  let v1186 : BitVec 1 := Scalar.andi v1185 v1182
  let v1187 : BitVec 32 := Scalar.addi v1181 v1180
  let v1188 : BitVec 32 := Scalar.select v1186 v1187 v1181
  let c1_i32_812 : BitVec 32 := 1#32
  let v1190 : BitVec 32 := Scalar.muli v1188 c1_i32_812
  let v1191 : BitVec 32 := Scalar.addi c0_i32_813 v1190
  v1191.toNat
abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== UnclippedIdeal.lean ====
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.KernelIdeal.Steps.lean ====
/-
The kernel's body as loops. The printed body is straight-line code in parts: 32 stores of a column
block into the staging block buffer, 31 signals, one wait, 31 remote copies, 62 waits. Here each of
these stretches is one loop over a list of offsets, so that a later module proves one step and
concludes by induction over the list.
-/
module

public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.KernelIdeal.A2a

open Idealize.ShloMosaic Idealize.SL.Sem Cert.KernelIdeal Cert.KernelIdeal.Gen

variable {F : FTy → Type} [FloatOps F]

/-- A program of the kernel's body. -/
abbrev Pr (F : FTy → Type) [FloatOps F] (α : Type) := Prog (TpuEff nD τ sig (Elt F) Λ₀ .tc) α

/-- The run of `f` at each member of a list in turn, and then of `rest`. -/
def each {α : Type} (f : α → Pr F PUnit) (rest : Pr F PUnit) : List α → Pr F PUnit
  | [] => rest
  | a :: l => f a >>= fun _ => each f rest l

/-- The 32 column blocks. -/
abbrev blocks : List (Fin 32) :=
  [0, 1, 2, 3, 4, 5, 6, 7, 8, 9, 10, 11, 12, 13, 14, 15, 16, 17, 18, 19, 20, 21, 22, 23, 24, 25, 26, 27, 28,
    29, 30, 31]

/-- The 31 offsets to the other devices; offset `i` stands for the distance `i + 1`. -/
abbrev offs : List (Fin 31) :=
  [0, 1, 2, 3, 4, 5, 6, 7, 8, 9, 10, 11, 12, 13, 14, 15, 16, 17, 18, 19, 20, 21, 22, 23, 24, 25, 26, 27, 28, 29, 30]

/-- The device that the signal at offset `i` names, as the program computes it. -/
def sigDev (c : Dev nD) : Fin 31 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩, ⟨k0_dev8 c, k0_dev8_lt c⟩,
    ⟨k0_dev9 c, k0_dev9_lt c⟩, ⟨k0_dev10 c, k0_dev10_lt c⟩, ⟨k0_dev11 c, k0_dev11_lt c⟩, ⟨k0_dev12 c, k0_dev12_lt c⟩,
    ⟨k0_dev13 c, k0_dev13_lt c⟩, ⟨k0_dev14 c, k0_dev14_lt c⟩, ⟨k0_dev15 c, k0_dev15_lt c⟩, ⟨k0_dev16 c, k0_dev16_lt c⟩,
    ⟨k0_dev17 c, k0_dev17_lt c⟩, ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩, ⟨k0_dev24 c, k0_dev24_lt c⟩,
    ⟨k0_dev25 c, k0_dev25_lt c⟩, ⟨k0_dev26 c, k0_dev26_lt c⟩, ⟨k0_dev27 c, k0_dev27_lt c⟩, ⟨k0_dev28 c, k0_dev28_lt c⟩,
    ⟨k0_dev29 c, k0_dev29_lt c⟩, ⟨k0_dev30 c, k0_dev30_lt c⟩, ⟨k0_dev31 c, k0_dev31_lt c⟩]

/-- The device that the copy at offset `i` names, as the program computes it. -/
def cpyDev (c : Dev nD) : Fin 31 → Dev nD :=
  ![⟨k0_dev32 c, k0_dev32_lt c⟩, ⟨k0_dev33 c, k0_dev33_lt c⟩, ⟨k0_dev34 c, k0_dev34_lt c⟩, ⟨k0_dev35 c, k0_dev35_lt c⟩,
    ⟨k0_dev36 c, k0_dev36_lt c⟩, ⟨k0_dev37 c, k0_dev37_lt c⟩, ⟨k0_dev38 c, k0_dev38_lt c⟩, ⟨k0_dev39 c, k0_dev39_lt c⟩,
    ⟨k0_dev40 c, k0_dev40_lt c⟩, ⟨k0_dev41 c, k0_dev41_lt c⟩, ⟨k0_dev42 c, k0_dev42_lt c⟩, ⟨k0_dev43 c, k0_dev43_lt c⟩,
    ⟨k0_dev44 c, k0_dev44_lt c⟩, ⟨k0_dev45 c, k0_dev45_lt c⟩, ⟨k0_dev46 c, k0_dev46_lt c⟩, ⟨k0_dev47 c, k0_dev47_lt c⟩,
    ⟨k0_dev48 c, k0_dev48_lt c⟩, ⟨k0_dev49 c, k0_dev49_lt c⟩, ⟨k0_dev50 c, k0_dev50_lt c⟩, ⟨k0_dev51 c, k0_dev51_lt c⟩,
    ⟨k0_dev52 c, k0_dev52_lt c⟩, ⟨k0_dev53 c, k0_dev53_lt c⟩, ⟨k0_dev54 c, k0_dev54_lt c⟩, ⟨k0_dev55 c, k0_dev55_lt c⟩,
    ⟨k0_dev56 c, k0_dev56_lt c⟩, ⟨k0_dev57 c, k0_dev57_lt c⟩, ⟨k0_dev58 c, k0_dev58_lt c⟩, ⟨k0_dev59 c, k0_dev59_lt c⟩,
    ⟨k0_dev60 c, k0_dev60_lt c⟩, ⟨k0_dev61 c, k0_dev61_lt c⟩, ⟨k0_dev62 c, k0_dev62_lt c⟩]

/-- The device at distance `i + 1` after `c`, round the mesh. -/
def tgt (c : Dev nD) (i : Fin 31) : Dev nD := ⟨(c.val + (i.val + 1)) % 32, Nat.mod_lt _ (by decide)⟩

theorem sigDev_eq : ∀ (c : Dev nD) (i : Fin 31), sigDev c i = tgt c i := by decide +kernel
theorem cpyDev_eq : ∀ (c : Dev nD) (i : Fin 31), cpyDev c i = tgt c i := by decide +kernel

theorem slab_inb : ∀ b : Fin 32, ∀ a, (![b.val, 0, 0] : Fin 3 → Nat) a + S1x32x32.size a ≤ S32x32x32.size a := by
  decide
theorem cols_inb : ∀ b : Fin 32, S32x1024.Slices ![0, 32 * b.val] S32x32 := by decide
theorem sem_inb : ∀ i : Fin 31, ∀ a, (![i.val + 1] : Fin 1 → Nat) a + S1.size a ≤ S32.size a := by decide

/-- Columns `32 b` to `32 b + 31` of the activated product, as one block of the block buffer. -/
def blkVal (v9 : FVec F S32x1024 .f32) (b : Fin 32) : FVec F S1x32x32 .f32 :=
  shapeCast S1x32x32 (extractStridedSlice S32x32 ![0, 32 * b.val] v9 (cols_inb b)) shapeCasts_S32x32_S1x32x32

/-- The rows of `o` that device `c` fills on every device. -/
abbrev rowsOf (o : Memref sig .tc .vmem S1024x32 .f32) (c : Dev nD) : Memref sig .tc .vmem S32x32 .f32 :=
  o.slice (Rect.unit (s := S1024x32) (k0_off3 c) S32x32.size (k0_off3_inb c)) (fun _ => rfl)

/-- The block of `y` that goes to the device at offset `i` from `c`. -/
abbrev slabFor (y : Memref sig .tc .vmem S32x32x32 .f32) (c : Dev nD) (i : Fin 31) : Memref sig .tc .vmem S32x32 .f32 :=
  (y.slice (Rect.unit (s := S32x32x32) (k0_off4 c (BitVec.ofNat 32 (1 + i.val))) S1x32x32.size (k0_off4_inb c i)) (fun _ => rfl)).squeeze
    S32x32 squeezes_S1x32x32_S32x32

/-- Member `i + 1` of an array of 32 DMA semaphores. -/
abbrev semNo (s : DmaSems sig S32) (i : Fin 31) : DmaSem sig :=
  ((s.slice (Rect.unit (s := S32) ![i.val + 1] S1.size (sem_inb i))).squeeze S_ squeezes_S1_S_).sem

/-- The barrier semaphore. -/
abbrev barS : Sem sig := (SemArray.scalar (sig.barrier 0 rfl) : Sems sig S_).sem

/-- One block stored: a load nobody reads, then the store. -/
def putBlock (y : Memref sig .tc .vmem S32x32x32 .f32) (v9 : FVec F S32x1024 .f32) (b : Fin 32) : Pr F PUnit := do
  let _ ← Prog.lift (.load y (Rect.unit (s := S32x32x32) ![b.val, 0, 0] S1x32x32.size (slab_inb b)).toLoadRect (View.loadsAt_vmem h_S1x32x32))
  Prog.lift (.store y (Rect.unit (s := S32x32x32) ![b.val, 0, 0] S1x32x32.size (slab_inb b)) (blkVal v9 b) Finset.univ (View.stores_vmem_bits_univ h_S1x32x32 rfl) (.inl rfl))

/-- One signal of the entry handshake. -/
def signalTo (c : Dev nD) (i : Fin 31) : Pr F PUnit := semSignalWord (sigDev c i) barS 1#32

/-- One remote copy. -/
def sendTo (o : Memref sig .tc .vmem S1024x32 .f32) (y : Memref sig .tc .vmem S32x32x32 .f32) (s r : DmaSems sig S32)
    (c : Dev nD) (i : Fin 31) : Pr F PUnit :=
  Prog.lift (.enqueueDma (slabFor y c i) (.remote (Dev.tc (cpyDev c i)) (rowsOf o c) (.dma (semNo s i))) (.dma (semNo r i))
    ((View.wordExact_bits rfl).reshape _ _) (View.wordExact_bits rfl) ⟨⟨rfl, Or.inl rfl⟩, trivial⟩)

/-- The two waits of one copy: that the sent block may be written again, and that a block has come. -/
def waitBoth (o : Memref sig .tc .vmem S1024x32 .f32) (y : Memref sig .tc .vmem S32x32x32 .f32) (s r : DmaSems sig S32)
    (c : Dev nD) (i : Fin 31) : Pr F PUnit := do
  Prog.lift (.waitDma2 (semNo s i) (rowsOf o c) (slabFor y c i) (View.wordExact_bits rfl) ((View.wordExact_bits rfl).reshape _ _))
  Prog.lift (.waitDma2 (semNo r i) (slabFor y c i) (rowsOf o c) ((View.wordExact_bits rfl).reshape _ _) (View.wordExact_bits rfl))

/-- The device's own rows, loaded from its block and stored into its result. -/
def keepOwn (o : Memref sig .tc .vmem S1024x32 .f32) (y : Memref sig .tc .vmem S32x32x32 .f32) (c : Dev nD) : Pr F PUnit := do
  let v : Vec F S1x32x32 .f32 ← Prog.lift (.load y (Rect.unit (s := S32x32x32) (k0_off1 c) S1x32x32.size (k0_off1_inb c)).toLoadRect (View.loadsAt_vmem h_S1x32x32))
  let _ ← Prog.lift (.load o (Rect.unit (s := S1024x32) (k0_off2 c) S32x32.size (k0_off2_inb c)).toLoadRect (View.loadsAt_vmem h_S32x32))
  Prog.lift (.store o (Rect.unit (s := S1024x32) (k0_off2 c) S32x32.size (k0_off2_inb c)) (k0_pay38 v) Finset.univ (View.stores_vmem_bits_univ h_S32x32 rfl) (.inl rfl))

/-- The body in loops. -/
def loopBody (x : Memref sig .tc .vmem S32x1024 .bf16) (w : Memref sig .tc .vmem S1024x1024 .bf16) (o : Memref sig .tc .vmem S1024x32 .f32)
    (y : Memref sig .tc .vmem S32x32x32 .f32) (s r : DmaSems sig S32) : Pr F PUnit := do
  let c : Dev nD ← Prog.lift .deviceId
  let v3 : Vec F S32x1024 .bf16 ← Prog.lift (.load x (Rect.unit (s := S32x1024) ![0, 0] S32x1024.size inb_S32x1024_S32x1024_0_0).toLoadRect (View.loadsAt_vmem h_S32x1024))
  let v5 : Vec F S1024x1024 .bf16 ← Prog.lift (.load w (Rect.unit (s := S1024x1024) ![0, 0] S1024x1024.size inb_S1024x1024_S1024x1024_0_0).toLoadRect (View.loadsAt_vmem h_S1024x1024))
  each (putBlock y (k0_pay1 v3 v5)) (keepOwn o y c >>= fun _ =>
    each (signalTo c) (semWaitWord barS 31#32 >>= fun _ =>
      each (sendTo o y s r c) (each (waitBoth o y s r c) (pure ⟨⟩) offs) offs) offs) blocks

set_option maxRecDepth 65536 in
set_option maxHeartbeats 0 in
/-- The printed body is the body in loops, by unfolding. -/
theorem body_eq (x : Memref sig .tc .vmem S32x1024 .bf16) (hx : x.IsWhole) (w : Memref sig .tc .vmem S1024x1024 .bf16) (hw : w.IsWhole)
    (o : Memref sig .tc .vmem S1024x32 .f32) (ho : o.IsWhole) (y : Memref sig .tc .vmem S32x32x32 .f32) (hy : y.IsWhole) (s r : DmaSems sig S32) :
    cc0_body (F := F) x hx w hw o ho y hy s r = loopBody x w o y s r := by
  chain_rfl

end Cert.KernelIdeal.A2a

end
-- ==== Proof.KernelIdeal.Contents.lean ====
/-
What the kernel's buffers hold. A device's block buffer holds its activated product in 32 column
blocks; a device's result holds, in the rows of each device, that device's block for it. Here: which
elements of the two buffers the views of the program reach, and what a store, a load and a landed
copy make of the contents.
-/
module

public import proofs.«01_k».proof.Proof.KernelIdeal.Steps
public import Idealize.ShloMosaic.Lib.ValueLayout
public import Idealize.ShloMosaic.Lib.Pipeline.Launch
public import Idealize.ShloMosaic.Lib.Pipeline.Kit

@[expose] public section

noncomputable section

namespace Cert.KernelIdeal.A2a

open Idealize.ShloMosaic Idealize.SL.Sem Cert.KernelIdeal Cert.KernelIdeal.Gen
open Idealize.ShloMosaic.ValueIdx

variable {F : FTy → Type} [FloatOps F]

/-! ## The buffers, whole -/

abbrev xM : Memref sig .tc .vmem S32x1024 .bf16 := Memref.whole cc0_stg0_0
abbrev wM : Memref sig .tc .vmem S1024x1024 .bf16 := Memref.whole cc0_stg1_0
abbrev oM : Memref sig .tc .vmem S1024x32 .f32 := Memref.whole cc0_stg2_0
abbrev yM : Memref sig .tc .vmem S32x32x32 .f32 := Memref.whole cc0_scratch0

/-! ## The offsets that the program computes from the device's number -/

theorem off1_eq : ∀ c : Dev nD, k0_off1 c = ![c.val, 0, 0] := by decide +kernel
theorem off2_eq : ∀ c : Dev nD, k0_off2 c = ![32 * c.val, 0] := by decide +kernel
theorem off3_eq : ∀ c : Dev nD, k0_off3 c = ![32 * c.val, 0] := by decide +kernel
theorem off4_eq : ∀ (c : Dev nD) (i : Fin 31), k0_off4 c (BitVec.ofNat 32 (1 + i.val)) = ![(tgt c i).val, 0, 0] := by decide +kernel

/-! ## Going round the mesh -/

/-- The device whose copy at offset `i` goes to `c`. -/
def src (c : Dev nD) (i : Fin 31) : Dev nD := ⟨(c.val + (31 - i.val)) % 32, Nat.mod_lt _ (by decide)⟩

theorem tgt_src : ∀ (c : Dev nD) (i : Fin 31), tgt (src c i) i = c := by decide +kernel
theorem src_tgt : ∀ (c : Dev nD) (i : Fin 31), src (tgt c i) i = c := by decide +kernel
/-- The device that signals at offset `i` is the target of the opposite offset. -/
theorem src_eq_tgt_rev : ∀ (c : Dev nD) (i : Fin 31), src c i = tgt c i.rev := by decide +kernel
theorem tgt_ne : ∀ (c : Dev nD) (i : Fin 31), tgt c i ≠ c := by decide +kernel
theorem tgt_inj : ∀ (c : Dev nD) (i j : Fin 31), tgt c i = tgt c j → i = j := by decide +kernel
/-- Every other device is a target. -/
theorem exists_tgt : ∀ c d : Dev nD, d ≠ c → ∃ i, tgt c i = d := by decide +kernel
theorem src_ne (c : Dev nD) (i : Fin 31) : src c i ≠ c := by rw [src_eq_tgt_rev]; exact tgt_ne c _
theorem exists_src (c d : Dev nD) (h : d ≠ c) : ∃ i, src c i = d := by
  obtain ⟨i, hi⟩ := exists_tgt c d h
  exact ⟨i.rev, by rw [src_eq_tgt_rev, Fin.rev_rev, hi]⟩

/-! ## Contents -/

/-- An activated product in 32 column blocks. -/
def pieces (a : FVec F S32x1024 .f32) : FVec F S32x32x32 .f32 :=
  fun x => a (ix2 (x 1) ⟨32 * (x 0).val + (x 2).val, by have h0 : (x 0).val < 32 := (x 0).isLt; have h2 : (x 2).val < 32 := (x 2).isLt; omega⟩)

/-- Column block `c` of every device's activated product, the devices' rows one below another. -/
def joined (a : Dev nD → FVec F S32x1024 .f32) (c : Dev nD) : FVec F S1024x32 .f32 :=
  fun x => a ⟨(x 0).val / 32, by have h0 : (x 0).val < 1024 := (x 0).isLt; show _ < 32; omega⟩
    (ix2 ⟨(x 0).val % 32, by omega⟩ ⟨32 * c.val + (x 1).val, by have h0 : c.val < 32 := c.isLt; have h2 : (x 1).val < 32 := (x 1).isLt; omega⟩)

/-! ## The elements that the views reach -/

/-- The elements of the result in the rows of device `d`. -/
def rowSet (d : Dev nD) : Finset (S1024x32).Idx := Finset.univ.filter fun x => (x 0).val / 32 = d.val
/-- The elements of the block buffer in block `b`. -/
def slabSet (b : Fin 32) : Finset (S32x32x32).Idx := Finset.univ.filter fun x => (x 0).val = b.val

/-- A unit-stride rectangle's element, coordinate by coordinate. -/
theorem unit_emb_val {s : Shape} (off size : Fin s.rank → Nat) (inb) (j : (Rect.unit (s := s) off size inb).shape.Idx) (a : Fin s.rank) :
    ((Rect.unit off size inb).emb j a : Nat) = off a + (j a).val := by
  rw [Rect.emb_apply]
  show off a + 1 * (j a).val = _
  rw [Nat.one_mul]

theorem rowsOf_emb (c : Dev nD) (p q : Fin 32) :
    (rowsOf oM c).view.emb (ix2 p q) = (ix2 ⟨32 * c.val + p.val, by have h0 : c.val < 32 := c.isLt; omega⟩ q : (S1024x32).Idx) := by
  show (Rect.unit (s := S1024x32) (k0_off3 c) S32x32.size (k0_off3_inb c)).emb (ix2 p q) = _
  funext a
  apply Fin.ext
  rw [unit_emb_val, congrFun (off3_eq c) a]
  match a with
  | ⟨0, _⟩ => rfl
  | ⟨1, _⟩ => exact Nat.zero_add _

theorem slabFor_emb (c : Dev nD) (i : Fin 31) (p q : Fin 32) :
    (slabFor yM c i).view.emb (ix2 p q) = (ix3 (tgt c i) p q : (S32x32x32).Idx) := by
  show (Rect.unit (s := S32x32x32) (k0_off4 c (BitVec.ofNat 32 (1 + i.val))) S1x32x32.size (k0_off4_inb c i)).emb (Shape.reshapeEquiv _ (ix2 p q)) = _
  rw [reshapeEquiv_ix2_1ab]
  funext a
  apply Fin.ext
  rw [unit_emb_val, congrFun (off4_eq c i) a]
  match a with
  | ⟨0, _⟩ => rfl
  | ⟨1, _⟩ => exact Nat.zero_add _
  | ⟨2, _⟩ => exact Nat.zero_add _

theorem putRect_emb (b : Fin 32) (u : Fin 1) (p q : Fin 32) :
    (Rect.unit (s := S32x32x32) ![b.val, 0, 0] S1x32x32.size (slab_inb b)).emb (ix3 u p q) = (ix3 b p q : (S32x32x32).Idx) := by
  funext a
  apply Fin.ext
  rw [unit_emb_val]
  match a with
  | ⟨0, _⟩ => have := u.isLt; show b.val + u.val = b.val; omega
  | ⟨1, _⟩ => exact Nat.zero_add _
  | ⟨2, _⟩ => exact Nat.zero_add _

theorem ownRect_emb (c : Dev nD) (u : Fin 1) (p q : Fin 32) :
    (Rect.unit (s := S32x32x32) (k0_off1 c) S1x32x32.size (k0_off1_inb c)).emb (ix3 u p q) = (ix3 c p q : (S32x32x32).Idx) := by
  funext a
  apply Fin.ext
  rw [unit_emb_val, congrFun (off1_eq c) a]
  match a with
  | ⟨0, _⟩ => have := u.isLt; show c.val + u.val = c.val; omega
  | ⟨1, _⟩ => exact Nat.zero_add _
  | ⟨2, _⟩ => exact Nat.zero_add _

theorem ownRows_emb (c : Dev nD) (p q : Fin 32) :
    (Rect.unit (s := S1024x32) (k0_off2 c) S32x32.size (k0_off2_inb c)).emb (ix2 p q)
      = (ix2 ⟨32 * c.val + p.val, by have h0 : c.val < 32 := c.isLt; omega⟩ q : (S1024x32).Idx) := by
  funext a
  apply Fin.ext
  rw [unit_emb_val, congrFun (off2_eq c) a]
  match a with
  | ⟨0, _⟩ => rfl
  | ⟨1, _⟩ => exact Nat.zero_add _

/-- An element in the rows of device `c` is at some row and column of its block. -/
theorem exists_of_rowSet {c : Dev nD} {x : (S1024x32).Idx} (h : x ∈ rowSet c) :
    ∃ p q : Fin 32, x = ix2 ⟨32 * c.val + p.val, by have h0 : c.val < 32 := c.isLt; omega⟩ q := by
  have h := (Finset.mem_filter.mp h).2
  refine ⟨⟨(x 0).val % 32, Nat.mod_lt _ (by decide)⟩, x 1, ?_⟩
  rw [eq_ix2 x]
  congr 1
  apply Fin.ext
  show (x 0).val = 32 * c.val + (x 0).val % 32
  omega

theorem rowsOf_set (c : Dev nD) : (rowsOf oM c).view.set = rowSet c := by
  ext x
  constructor
  · intro h
    obtain ⟨j, -, rfl⟩ := Finset.mem_map.mp h
    obtain ⟨p, q, rfl⟩ : ∃ p q : Fin 32, j = ix2 p q := ⟨_, _, eq_ix2 j⟩
    rw [rowsOf_emb]
    refine Finset.mem_filter.mpr ⟨Finset.mem_univ _, ?_⟩
    show (32 * c.val + p.val) / 32 = c.val
    omega
  · intro h
    obtain ⟨p, q, rfl⟩ := exists_of_rowSet h
    rw [← rowsOf_emb]
    exact View.emb_mem_set _ _

theorem slabFor_set (c : Dev nD) (i : Fin 31) : (slabFor yM c i).view.set = slabSet (tgt c i) := by
  ext x
  constructor
  · intro h
    obtain ⟨j, -, rfl⟩ := Finset.mem_map.mp h
    obtain ⟨p, q, rfl⟩ : ∃ p q : Fin 32, j = ix2 p q := ⟨_, _, eq_ix2 j⟩
    rw [slabFor_emb]
    exact Finset.mem_filter.mpr ⟨Finset.mem_univ _, rfl⟩
  · intro h
    have h := (Finset.mem_filter.mp h).2
    obtain ⟨b, p, q, rfl⟩ : ∃ b p q : Fin 32, x = ix3 b p q := ⟨_, _, _, eq_ix3 x⟩
    obtain rfl : b = tgt c i := Fin.ext h
    rw [← slabFor_emb]
    exact View.emb_mem_set _ _

/-- Device `c`'s own rows, as the elements that its store writes. -/
theorem ownRows_set (c : Dev nD) : (Rect.unit (s := S1024x32) (k0_off2 c) S32x32.size (k0_off2_inb c)).set = rowSet c := by
  rw [← rowsOf_set]
  show _ = ((View.whole cc0_stg2_0).slice (Rect.unit (s := S1024x32) (k0_off3 c) S32x32.size (k0_off3_inb c))).set
  rw [View.set_slice_whole]
  simp only [off2_eq, off3_eq]

/-! ## What a store, a load and a copy make of the contents -/

theorem blkVal_apply (a : FVec F S32x1024 .f32) (b : Fin 32) (u : Fin 1) (p q : Fin 32) :
    blkVal a b (ix3 u p q) = pieces a (ix3 b p q) := by
  unfold blkVal
  rw [shapeCast_ab_1ab_apply]
  show a _ = a _
  congr 1
  funext k
  match k with
  | ⟨0, _⟩ => exact Fin.ext (Nat.zero_add _)
  | ⟨1, _⟩ => exact Fin.ext rfl

/-- A stored block: block `b` becomes the product's, the others stay. -/
theorem put_apply (a : FVec F S32x1024 .f32) (b : Fin 32) (f : FVec F S32x32x32 .f32) (x : (S32x32x32).Idx) :
    (yM.access (Rect.unit (s := S32x32x32) ![b.val, 0, 0] S1x32x32.size (slab_inb b))).write (Elt F) f (blkVal a b) Finset.univ x
      = if (x 0).val = b.val then pieces a x else f x := by
  by_cases h : (x 0).val = b.val
  · rw [if_pos h]
    obtain ⟨b', p, q, rfl⟩ : ∃ b p q : Fin 32, x = ix3 b p q := ⟨_, _, _, eq_ix3 x⟩
    obtain rfl : b' = b := Fin.ext h
    have e := View.write_emb_of_mem (Val := Elt F) (v := yM.access (Rect.unit (s := S32x32x32) ![b'.val, 0, 0] S1x32x32.size (slab_inb b')))
      f (blkVal a b') (Finset.mem_univ (ix3 (0 : Fin 1) p q))
    rw [show (yM.access (Rect.unit (s := S32x32x32) ![b'.val, 0, 0] S1x32x32.size (slab_inb b'))).emb (ix3 (0 : Fin 1) p q) = ix3 b' p q from
      putRect_emb b' 0 p q] at e
    rw [e]
    exact blkVal_apply a b' 0 p q
  · rw [if_neg h]
    refine View.write_of_not_mem _ _ _ fun hm => h ?_
    obtain ⟨j, -, rfl⟩ := Finset.mem_map.mp hm
    obtain ⟨u, p, q, rfl⟩ : ∃ (u : Fin 1) (p q : Fin 32), j = ix3 u p q := ⟨_, _, _, eq_ix3 j⟩
    show ((Rect.unit (s := S32x32x32) ![b.val, 0, 0] S1x32x32.size (slab_inb b)).emb (ix3 u p q) 0).val = b.val
    rw [putRect_emb]

theorem pay38_apply (v : Vec F S1x32x32 .f32) (p q : Fin 32) : k0_pay38 v (ix2 p q) = v (ix3 (0 : Fin 1) p q) :=
  shapeCast_1ab_ab_apply v _ p q

/-- The device's own rows, stored from its own block, are what the result holds there. -/
theorem own_apply (a : Dev nD → FVec F S32x1024 .f32) (c : Dev nD) (f : FVec F S1024x32 .f32) {x : (S1024x32).Idx} (hx : x ∈ rowSet c) :
    (oM.access (Rect.unit (s := S1024x32) (k0_off2 c) S32x32.size (k0_off2_inb c))).write (Elt F) f
        (k0_pay38 (yM.view.readAt (Elt F) (Rect.unit (s := S32x32x32) (k0_off1 c) S1x32x32.size (k0_off1_inb c)).toLoadRect (pieces (a c)))) Finset.univ x
      = joined a c x := by
  obtain ⟨p, q, rfl⟩ := exists_of_rowSet hx
  have e := View.write_emb_of_mem (Val := Elt F) (v := oM.access (Rect.unit (s := S1024x32) (k0_off2 c) S32x32.size (k0_off2_inb c)))
    f (k0_pay38 (yM.view.readAt (Elt F) (Rect.unit (s := S32x32x32) (k0_off1 c) S1x32x32.size (k0_off1_inb c)).toLoadRect (pieces (a c))))
    (Finset.mem_univ (ix2 p q))
  rw [show (oM.access (Rect.unit (s := S1024x32) (k0_off2 c) S32x32.size (k0_off2_inb c))).emb (ix2 p q) = _ from ownRows_emb c p q] at e
  rw [e]
  show k0_pay38 (yM.view.readAt (Elt F) (Rect.unit (s := S32x32x32) (k0_off1 c) S1x32x32.size (k0_off1_inb c)).toLoadRect (pieces (a c))) (ix2 p q) = _
  rw [pay38_apply]
  show pieces (a c) ((Rect.unit (s := S32x32x32) (k0_off1 c) S1x32x32.size (k0_off1_inb c)).emb (ix3 (0 : Fin 1) p q)) = _
  rw [ownRect_emb]
  show a c _ = a _ _
  have h1 : (⟨(32 * c.val + p.val) / 32, by have h0 : c.val < 32 := c.isLt; show _ < 32; omega⟩ : Dev nD) = c := Fin.ext (by show (32 * c.val + p.val) / 32 = c.val; omega)
  have h2 : (⟨(32 * c.val + p.val) % 32, by omega⟩ : Fin 32) = p := Fin.ext (by show (32 * c.val + p.val) % 32 = p.val; omega)
  show a c (ix2 p _) = a (⟨(32 * c.val + p.val) / 32, _⟩ : Dev nD) (ix2 (⟨(32 * c.val + p.val) % 32, _⟩ : Fin 32) _)
  rw [h1, h2]

/-- A copy landed on the target at offset `i`: in the sender's rows the target's result holds what it must. -/
theorem landed_apply (a : Dev nD → FVec F S32x1024 .f32) (c : Dev nD) (i : Fin 31) (f : FVec F S1024x32 .f32) {x : (S1024x32).Idx} (hx : x ∈ rowSet c) :
    (rowsOf oM c).view.write (Elt F) f ((slabFor yM c i).view.read (Elt F) (pieces (a c))) Finset.univ x = joined a (tgt c i) x := by
  obtain ⟨p, q, rfl⟩ := exists_of_rowSet hx
  have e := View.write_emb_of_mem (Val := Elt F) (v := (rowsOf oM c).view)
    f ((slabFor yM c i).view.read (Elt F) (pieces (a c))) (Finset.mem_univ (ix2 p q))
  rw [rowsOf_emb] at e
  rw [e]
  show pieces (a c) ((slabFor yM c i).view.emb (ix2 p q)) = _
  rw [slabFor_emb]
  have h1 : (⟨(32 * c.val + p.val) / 32, by have h0 : c.val < 32 := c.isLt; show _ < 32; omega⟩ : Dev nD) = c := Fin.ext (by show (32 * c.val + p.val) / 32 = c.val; omega)
  have h2 : (⟨(32 * c.val + p.val) % 32, by omega⟩ : Fin 32) = p := Fin.ext (by show (32 * c.val + p.val) % 32 = p.val; omega)
  show a c (ix2 p _) = a (⟨(32 * c.val + p.val) / 32, _⟩ : Dev nD) (ix2 (⟨(32 * c.val + p.val) % 32, _⟩ : Fin 32) _)
  rw [h1, h2]

end Cert.KernelIdeal.A2a

end
-- ==== Proof.KernelIdeal.Protocol.lean ====
/-
The protocol between the devices.

For each device `c` and offset `i` (distance `i + 1` round the mesh; `tgt c i` is the device there):

* the barrier semaphore of a device takes 31 units, one from each other device. The unit from the device whose
  offset `i` leads here hands over that device's rows for this device's block: the place the copy will write.
* the copy at offset `i` credits member `i + 1` of the send array on the sender, which hands the sent block back,
  and member `i + 1` of the receive array on the target, which hands the target those rows filled.

Members 0 of the two arrays are never used.
-/
module

public import proofs.«01_k».proof.Proof.KernelIdeal.Contents
public import Idealize.ShloMosaic.Lib.Tactic

@[expose] public section

noncomputable section

namespace Cert.KernelIdeal.A2a

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, and the protocol's with offsets as duties -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev sndLoc (i : Fin 31) : SemLoc sig := .dma (semNo cc0_scratch1 i)
abbrev rcvLoc (i : Fin 31) : SemLoc sig := .dma (semNo cc0_scratch2 i)

/-- The kernel's own semaphores: the two unused members, the send members, the receive members. -/
abbrev OS : Type := Bool ⊕ (Fin 31 ⊕ Fin 31)

def osem : OS → SemLoc sig
  | .inl false => .dma (⟨3, by decide⟩ : Fin 67)
  | .inl true => .dma (⟨35, by decide⟩ : Fin 67)
  | .inr (.inl i) => sndLoc i
  | .inr (.inr i) => rcvLoc i

/-- All of them, with the barrier semaphore. -/
def csem : Unit ⊕ OS → SemLoc sig
  | .inl _ => .reg barS
  | .inr k => osem k

theorem csem_injective : Function.Injective csem := by
  have h : ∀ a b, csem a = csem b → a = b := by decide +kernel
  exact fun a b => h a b

abbrev kcell (ck : Dev nD × (Unit ⊕ OS)) : GSem nD τ sig := ((ck.1 : Thread nD τ), csem ck.2)
abbrev barCell (c : Dev nD) : GSem nD τ sig := ((c : Thread nD τ), .reg barS)
abbrev sndCell (c : Dev nD) (i : Fin 31) : GSem nD τ sig := ((c : Thread nD τ), sndLoc i)
abbrev rcvCell (c : Dev nD) (i : Fin 31) : GSem nD τ sig := ((c : Thread nD τ), rcvLoc i)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- What a semaphore is for. -/
inductive Role where
  | bar
  | snd (i : Fin 31)
  | rcv (i : Fin 31)
  | other
  deriving DecidableEq

def role : SemLoc sig → Role
  | .reg s => if s = barS then .bar else .other
  | .dma q =>
    if h : 4 ≤ q.val ∧ q.val < 35 then .snd ⟨q.val - 4, by omega⟩
    else if h : 36 ≤ q.val ∧ q.val < 67 then .rcv ⟨q.val - 36, by omega⟩
    else .other

theorem role_bar : role (.reg barS) = .bar := by decide
theorem role_snd : ∀ i : Fin 31, role (sndLoc i) = .snd i := by decide +kernel
theorem role_rcv : ∀ i : Fin 31, role (rcvLoc i) = .rcv i := by decide +kernel
theorem role_spare : ∀ b : Bool, role (osem (.inl b)) = .other := by decide +kernel

/-- The units of one copied block. -/
abbrev N : ℕ := (rowsOf oM (0 : Fin 32)).view.dmaCredit
theorem N_pos : 0 < N := View.dmaCredit_pos _ (by decide)

/-! ## The parts of the buffers that change hands -/

/-- Device `d`'s result, in the rows of device `s`. -/
def rowPts (d s : Dev nD) (f : Buf (Elt F) ((rowsOf oM s).view.loc (d : Thread nD τ))) : sProp 𝕄 :=
  (rowsOf oM s).view.loc (d : Thread nD τ) ↦[(rowsOf oM s).view.set]{fullShare} f

/-- Device `c`'s block buffer, in the block for the device at offset `i`. -/
def slabPts (c : Dev nD) (i : Fin 31) (f : Buf (Elt F) ((slabFor yM c i).view.loc (c : Thread nD τ))) : sProp 𝕄 :=
  (slabFor yM c i).view.loc (c : Thread nD τ) ↦[(slabFor yM c i).view.set]{fullShare} f

/-- The same rows, whatever they hold. -/
def rowAny (d s : Dev nD) : sProp 𝕄 := iprop(∃ f, rowPts (F := F) d s f)

omit [FloatOps F] in
instance rowPts_storable (d s : Dev nD) (f) : BI.Storable (upEmb : UEmb _ 𝕄) (rowPts (F := F) d s f) := by unfold rowPts; infer_instance
omit [FloatOps F] in
instance slabPts_storable (c : Dev nD) (i : Fin 31) (f) : BI.Storable (upEmb : UEmb _ 𝕄) (slabPts (F := F) c i f) := by unfold slabPts; infer_instance
omit [FloatOps F] in
instance rowAny_storable (d s : Dev nD) : BI.Storable (upEmb : UEmb _ 𝕄) (rowAny (F := F) d s) := by unfold rowAny; infer_instance

/-! ## The schedule -/

variable (a : Dev nD → FVec F S32x1024 .f32)

/-- The duties of a semaphore at round 0. -/
def dutiesOf : Role → Finset (Fin 31)
  | .bar => Finset.univ
  | .snd _ | .rcv _ => {0}
  | .other => ∅

/-- What a duty of a semaphore of device `c` hands to it. -/
def payOf (c : Dev nD) (d : Fin 31) : Role → sProp 𝕄
  | .bar => rowAny (src c d) c
  | .snd i => slabPts c i (pieces (a c))
  | .rcv i => rowPts c (src c i) (joined a c)
  | .other => iprop(emp)

instance payOf_storable (c : Dev nD) (d : Fin 31) (r : Role) : BI.Storable (upEmb : UEmb _ 𝕄) (payOf a c d r) := by
  cases r <;> (unfold payOf; infer_instance)

/-- One round, with the duties, amounts and payloads above. -/
def sched : Rounds.Schedule (GSem nD τ sig) (Fin 31) 𝕄 where
  duties g r := if r = 0 ∧ g.1.2 = .tc then dutiesOf (role g.2) else ∅
  unitless _ := False
  amount g _ _ := if role g.2 = .bar then 1 else N
  payload g _ d := payOf a g.1.1 d (role g.2)
  amount_pos g _ _ _ := by
    by_cases h : role g.2 = .bar
    · rw [if_pos h]; exact Nat.one_pos
    · rw [if_neg h]; exact N_pos

instance sched_storable (g : GSem nD τ sig) (r : ℕ) (d : Fin 31) :
    BI.Storable (upEmb : UEmb _ 𝕄) ((sched a).payload g r d) := payOf_storable a _ _ _

section Tables
variable (c : Dev nD) (i : Fin 31)

theorem duties_bar : (sched a).duties (barCell c) 0 = Finset.univ := by
  dsimp only [sched]; rw [if_pos ⟨rfl, rfl⟩, role_bar]; rfl
theorem duties_snd : (sched a).duties (sndCell c i) 0 = {0} := by
  dsimp only [sched]; rw [if_pos ⟨rfl, rfl⟩, role_snd]; rfl
theorem duties_rcv : (sched a).duties (rcvCell c i) 0 = {0} := by
  dsimp only [sched]; rw [if_pos ⟨rfl, rfl⟩, role_rcv]; rfl
theorem duties_spare (b : Bool) (r : ℕ) : (sched a).duties ((c : Thread nD τ), osem (.inl b)) r = ∅ := by
  dsimp only [sched]; rw [role_spare]; exact ite_self _
theorem duties_later (g : GSem nD τ sig) : ∀ r, 1 ≤ r → (sched a).duties g r = ∅ :=
  fun r hr => by dsimp only [sched]; exact if_neg fun h => by omega

theorem amount_bar (d : Fin 31) : (sched a).amount (barCell c) 0 d = 1 := by dsimp only [sched]; exact if_pos role_bar
theorem amount_snd (d : Fin 31) : (sched a).amount (sndCell c i) 0 d = N := by
  dsimp only [sched]; exact if_neg fun h => by rw [role_snd] at h; cases h
theorem amount_rcv (d : Fin 31) : (sched a).amount (rcvCell c i) 0 d = N := by
  dsimp only [sched]; exact if_neg fun h => by rw [role_rcv] at h; cases h

theorem expect_bar : (sched a).expect (barCell c) 0 = 31 := by
  unfold Schedule.expect Schedule.amountOf
  rw [duties_bar, Finset.sum_congr rfl fun d _ => amount_bar a c d, Finset.sum_const, Finset.card_univ, Fintype.card_fin, smul_eq_mul]
theorem expect_snd : (sched a).expect (sndCell c i) 0 = N := by
  unfold Schedule.expect Schedule.amountOf; rw [duties_snd, Finset.sum_singleton, amount_snd]
theorem expect_rcv : (sched a).expect (rcvCell c i) 0 = N := by
  unfold Schedule.expect Schedule.amountOf; rw [duties_rcv, Finset.sum_singleton, amount_rcv]

theorem payload_bar (d : Fin 31) : (sched a).payload (barCell c) 0 d = rowAny (src c d) c := by
  dsimp only [sched]; rw [role_bar]; rfl
theorem payload_snd (d : Fin 31) : (sched a).payload (sndCell c i) 0 d = slabPts c i (pieces (a c)) := by
  dsimp only [sched]; rw [role_snd]; rfl
theorem payload_rcv (d : Fin 31) : (sched a).payload (rcvCell c i) 0 d = rowPts c (src c i) (joined a c) := by
  dsimp only [sched]; rw [role_rcv]; rfl

/-- What a device has after its barrier wait: on every target, the rows for its own block. -/
theorem rest_bar : bigSep ((sched a).duties (barCell c) 0 \ ∅) (fun d => (sched a).payload (barCell c) 0 d)
    = bigSep Finset.univ fun i : Fin 31 => (rowAny (tgt c i) c : sProp 𝕄) := by
  rw [Finset.sdiff_empty, duties_bar, bigSep_univ_equiv Fin.revPerm (fun i : Fin 31 => (rowAny (tgt c i) c : sProp 𝕄))]
  exact bigSep_congr fun d _ => by rw [payload_bar, src_eq_tgt_rev]; rfl
theorem rest_snd : bigSep ((sched a).duties (sndCell c i) 0 \ ∅) (fun d => (sched a).payload (sndCell c i) 0 d) = slabPts c i (pieces (a c)) := by
  rw [Finset.sdiff_empty, duties_snd, bigSep_singleton, payload_snd]
theorem rest_rcv : bigSep ((sched a).duties (rcvCell c i) 0 \ ∅) (fun d => (sched a).payload (rcvCell c i) 0 d) = rowPts c (src c i) (joined a c) := by
  rw [Finset.sdiff_empty, duties_rcv, bigSep_singleton, payload_rcv]

end Tables

/-! ## What each device owes at launch, and the levels -/

/-- The receive credits that a device owes for the copies of a list of offsets. -/
def dueR (c : Dev nD) (l : List (Fin 31)) : CellTallies nD τ sig Unit := (l.map fun i => tallyAt (rcvCell (tgt c i) i) () N).sum
/-- The barrier units that it owes for the signals of a list of offsets. -/
def dueB (c : Dev nD) (l : List (Fin 31)) : CellTallies nD τ sig Unit := (l.map fun i => tallyAt (barCell (tgt c i)) () 1).sum

theorem dueR_cons (c : Dev nD) (i : Fin 31) (l : List (Fin 31)) : dueR c (i :: l) = dueR c l + tallyAt (rcvCell (tgt c i) i) () N := by
  unfold dueR; rw [List.map_cons, List.sum_cons, add_comm]
theorem dueB_cons (c : Dev nD) (i : Fin 31) (l : List (Fin 31)) : dueB c (i :: l) = dueB c l + tallyAt (barCell (tgt c i)) () 1 := by
  unfold dueB; rw [List.map_cons, List.sum_cons, add_comm]

def O₀ (c : Dev nD) : CellTallies nD τ sig Unit := dueR c offs + dueB c offs

def L (g : GSem nD τ sig) : Finset Unit := if g.1.2 = .tc then {()} else ∅
/-- Barrier semaphores at 1, receive semaphores at 2, all others at 0. -/
def lvOf : Role → ℕ
  | .bar => 1
  | .rcv _ => 2
  | .snd _ | .other => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

theorem dueR_pos {c : Dev nD} {g : GSem nD τ sig} {u : Unit} : ∀ {l : List (Fin 31)}, 0 < dueR c l g u → ∃ i, g = rcvCell (tgt c i) i
  | [], h => absurd h (Nat.lt_irrefl 0)
  | i :: l, h => by
    rw [dueR_cons, Pi.add_apply, Finsupp.add_apply, tallyAt_apply] at h
    by_cases hi : g = rcvCell (tgt c i) i ∧ u = ()
    · exact ⟨i, hi.1⟩
    · rw [if_neg hi] at h; exact dueR_pos h
theorem dueB_pos {c : Dev nD} {g : GSem nD τ sig} {u : Unit} : ∀ {l : List (Fin 31)}, 0 < dueB c l g u → ∃ i, g = barCell (tgt c i)
  | [], h => absurd h (Nat.lt_irrefl 0)
  | i :: l, h => by
    rw [dueB_cons, Pi.add_apply, Finsupp.add_apply, tallyAt_apply] at h
    by_cases hi : g = barCell (tgt c i) ∧ u = ()
    · exact ⟨i, hi.1⟩
    · rw [if_neg hi] at h; exact dueB_pos h

theorem O₀_pos {c : Dev nD} {g : GSem nD τ sig} {u : Unit} (h : 0 < O₀ c g u) : (∃ i, g = rcvCell (tgt c i) i) ∨ ∃ i, g = barCell (tgt c i) := by
  unfold O₀ at h
  rw [Pi.add_apply, Finsupp.add_apply] at h
  by_cases h1 : 0 < dueR c offs g u
  · exact .inl (dueR_pos h1)
  · exact .inr (dueB_pos (l := offs) (u := u) (by omega))

theorem lv_bar (c : Dev nD) : lv (barCell c) () = 1 := by unfold lv; rw [role_bar]; rfl
theorem lv_rcv (c : Dev nD) (i : Fin 31) : lv (rcvCell c i) () = 2 := by unfold lv; rw [role_rcv]; rfl

/-- A device may wait on a semaphore of level 0 whatever it owes at launch, -/
theorem mayWait_stage (c : Dev nD) (q : DmaSem sig) (hq : lvOf (role (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨i, rfl⟩ <;> exact Finset.mem_singleton_self _)
      (fun p hp => by rw [Finset.mem_singleton.mp hp]; exact le_of_eq hq)
      (fun g u hg => by
        rcases O₀_pos hg with ⟨i, rfl⟩ | ⟨i, rfl⟩
        · rw [lv_rcv]; decide
        · rw [lv_bar]; decide)
  · rw [MayWait_zero]; iintro -; iempintro

/-- and on its barrier semaphore while it owes receive credits only. -/
theorem mayWait_bar (c : Dev nD) : (levAts L lv : sProp 𝕄) ⊢ MayWait (c : Thread nD τ) (.reg barS) () (dueR c offs) :=
  MayOwe.of_cut (L := L) (lev := lv) 1 (fun p hp => by rw [Finset.mem_singleton.mp hp, L_tc]; exact Finset.mem_singleton_self _)
    (fun g u hg => by obtain ⟨i, rfl⟩ := dueR_pos hg; exact Finset.mem_singleton_self _)
    (fun p hp => by rw [Finset.mem_singleton.mp hp]; exact le_of_eq (lv_bar c))
    (fun g u hg => by obtain ⟨i, rfl⟩ := dueR_pos hg; rw [lv_rcv]; decide)

/-! ## What every device may use: all invariants, and that every semaphore has reached round 0 -/

def records (K : Dev nD × (Unit ⊕ OS) → ℕ) : sProp 𝕄 :=
  iprop((bigSep Finset.univ fun ck : Dev nD × (Unit ⊕ OS) => cellInv ER (sched a) (K ck) (kcell ck))
    ∗ bigSep Finset.univ fun ck : Dev nD × (Unit ⊕ OS) => reached ER (kcell ck) 0)

instance records_persistent (K : Dev nD × (Unit ⊕ OS) → ℕ) : BI.Persistent (records a K) := by unfold records; infer_instance

theorem inv_at (K : Dev nD × (Unit ⊕ OS) → ℕ) (ck : Dev nD × (Unit ⊕ OS)) : records a K ⊢ cellInv ER (sched a) (K ck) (kcell ck) := by
  have h : (bigSep Finset.univ fun ck : Dev nD × (Unit ⊕ OS) => (cellInv ER (sched a) (K ck) (kcell ck) : sProp 𝕄)) ⊢ cellInv ER (sched a) (K ck) (kcell ck) :=
    bigSep_elim (Finset.mem_univ ck)
  unfold records
  iintro ⟨H, -⟩
  iapply h; iexact H
theorem reached_at (K : Dev nD × (Unit ⊕ OS) → ℕ) (ck : Dev nD × (Unit ⊕ OS)) : records a K ⊢ reached ER (kcell ck) 0 := by
  have h : (bigSep Finset.univ fun ck : Dev nD × (Unit ⊕ OS) => (reached ER (kcell ck) 0 : sProp 𝕄)) ⊢ reached ER (kcell ck) 0 :=
    bigSep_elim (Finset.mem_univ ck)
  unfold records
  iintro ⟨-, H⟩
  iapply h; iexact H

end Cert.KernelIdeal.A2a

end
-- ==== Proof.KernelIdeal.Loops.lean ====
/-
The steps of the kernel's loops under the protocol, and the loops. Each step is proved once, at a symbolic device and
offset; the loop over a list of offsets follows from its step by induction.
-/
module

public import proofs.«01_k».proof.Proof.KernelIdeal.Protocol
public import Idealize.ShloMosaic.Lib.Pipeline.BigSepL

@[expose] public section

noncomputable section

namespace Cert.KernelIdeal.A2a

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- That a program of device `c` runs without fault and ends in `Q`. -/
abbrev wpc (c : Dev nD) (p : Pr F PUnit) (Q : PUnit → sProp 𝕄) : sProp 𝕄 :=
  wp frame (wpE (defs₀ (F := F)) 𝒱₀ (c : Thread nD τ) none) Set.univ p Q

/-- A loop from its step: the state `R` goes from a list to its tail, and each member's `Pre` becomes its `Post`. -/
theorem wp_each {α : Type} (c : Dev nD) (f : α → Pr F PUnit) (rest : Pr F PUnit) (R : List α → sProp 𝕄) (Pre Post : α → sProp 𝕄)
    (step : ∀ i l (k : PUnit → Pr F PUnit) Q, iprop(R (i :: l) ∗ Pre i ∗ ((R l ∗ Post i) -∗ wpc c (k ⟨⟩) Q)) ⊢ wpc c (f i >>= k) Q) :
    ∀ (l : List α) (Q : PUnit → sProp 𝕄),
      iprop(R l ∗ bigSepL l Pre ∗ ((R [] ∗ bigSepL l Post) -∗ wpc c rest Q)) ⊢ wpc c (each f rest l) Q
  | [], Q => by
    unfold each
    rw [bigSepL_nil, bigSepL_nil]
    iintro ⟨HR, -, Hk⟩
    iapply Hk
    isplitl [HR]; · iexact HR
    iempintro
  | i :: l, Q => by
    unfold each
    rw [bigSepL_cons', bigSepL_cons']
    iintro ⟨HR, ⟨Hi, Hl⟩, Hk⟩
    iapply (step i l _ Q)
    isplitl [HR]; · iexact HR
    isplitl [Hi]; · iexact Hi
    iintro ⟨HR, Hi⟩
    iapply (wp_each c f rest R Pre Post step l Q)
    isplitl [HR]; · iexact HR
    isplitl [Hl]; · iexact Hl
    iintro ⟨HR, Hl⟩
    iapply Hk
    isplitl [HR]; · iexact HR
    isplitl [Hi] <;> iassumption

/-! ## The blocks stored -/

/-- The block buffer of device `c`, whole. -/
def yPts (c : Dev nD) (f : FVec F S32x32x32 .f32) : sProp 𝕄 := ((c : Thread nD τ).loc cc0_scratch0) ↦{fullShare} (f : Buf (Elt F) ((c : Thread nD τ).loc cc0_scratch0))

/-- The block buffer holds the product's blocks, but for those of a list. -/
def putInv (c : Dev nD) (v : FVec F S32x1024 .f32) (l : List (Fin 32)) : sProp 𝕄 :=
  iprop(∃ f : FVec F S32x32x32 .f32, ⌜∀ b : Fin 32, b ∉ l → ∀ x : (S32x32x32).Idx, (x 0).val = b.val → f x = pieces v x⌝ ∗ yPts c f)

theorem put_step (c : Dev nD) (v : FVec F S32x1024 .f32) (b : Fin 32) (l : List (Fin 32)) (k : PUnit → Pr F PUnit) (Q : PUnit → sProp 𝕄) :
    iprop(putInv c v (b :: l) ∗ emp ∗ ((putInv c v l ∗ emp) -∗ wpc c (k ⟨⟩) Q)) ⊢ wpc c (putBlock yM v b >>= k) Q := by
  unfold putBlock
  simp only [Prog.lift, Prog.bind_op, Prog.bind_ret, Prog.pure_eq_ret]
  unfold putInv yPts
  iintro ⟨⟨%f, %hf, Hy⟩, -, Hk⟩
  iapply (wp_load 𝒱₀ (c : Thread nD τ) none Set.univ (m := yM) (Finset.subset_univ _)) $$ Hy; iintro Hy
  iapply (wp_store 𝒱₀ (c : Thread nD τ) none Set.univ (m := yM) (r := Rect.unit (s := S32x32x32) ![b.val, 0, 0] S1x32x32.size (slab_inb b))
    (Mk := Finset.univ) (Finset.subset_univ _)) $$ Hy; iintro Hy
  iapply Hk
  isplitl [Hy]
  · iexists ((yM.access (Rect.unit (s := S32x32x32) ![b.val, 0, 0] S1x32x32.size (slab_inb b))).write (Elt F) f (blkVal v b) Finset.univ)
    isplitr
    · ipureintro
      intro b' hb' x hx
      rw [put_apply]
      by_cases h : (x 0).val = b.val
      · rw [if_pos h]
      · rw [if_neg h]
        exact hf b' (fun hm => by
          rcases List.mem_cons.mp hm with rfl | hm
          · exact h hx
          · exact hb' hm) x hx
    · iexact Hy
  · iempintro

variable (a : Dev nD → FVec F S32x1024 .f32) (K : Dev nD × (Unit ⊕ OS) → ℕ)

/-! ## The signals -/

def sigInv (c : Dev nD) (l : List (Fin 31)) : sProp 𝕄 :=
  iprop(records a K ∗ ∃ W, owes (c : Thread nD τ) (dueR c offs + dueB c l) W)

/-- What a signal takes: its token, and the rows of this device's result that the target will write. -/
def sigPre (c : Dev nD) (i : Fin 31) : sProp 𝕄 := iprop(dutyTok ER (barCell (tgt c i)) 0 i ∗ rowAny c (tgt c i))

theorem sig_step (c : Dev nD) (i : Fin 31) (l : List (Fin 31)) (k : PUnit → Pr F PUnit) (Q : PUnit → sProp 𝕄) :
    iprop(sigInv a K c (i :: l) ∗ sigPre c i ∗ ((sigInv a K c l ∗ emp) -∗ wpc c (k ⟨⟩) Q)) ⊢ wpc c (signalTo c i >>= k) Q := by
  unfold signalTo
  rw [sigDev_eq]
  simp only [semSignalWord, Prog.lift, Prog.bind_op, Prog.bind_ret, Prog.pure_eq_ret]
  unfold sigInv sigPre
  iintro ⟨⟨#HR, %W, HO⟩, ⟨Ht, Hrow⟩, Hk⟩
  iapply (Rounds.wp_signal 𝒱₀ ER (sched a) (c : Thread nD τ) none (dst := (tgt c i : Thread nD τ)) (κ := K (tgt c i, .inl ()))
      (d := i) (by rw [duties_bar]; exact Finset.mem_univ _) ((amount_bar a (tgt c i) i).trans (by decide)) () (dueR c offs + dueB c l)
      (O₀ := dueR c offs + dueB c (i :: l)) (by rw [dueB_cons, add_assoc]; rfl)) $$ [HO Ht Hrow]
  · isplitr; · iapply (inv_at a K (tgt c i, .inl ())); iexact HR
    isplitl [HO]; · iexact HO
    isplitl [Ht]; · iexact Ht
    isplitl [Hrow]; · rw [payload_bar, src_tgt]; iexact Hrow
    iapply (reached_at a K (tgt c i, .inl ())); iexact HR
  iintro HO
  iapply Hk
  isplitl [HO]
  · isplitr; · iexact HR
    iexists W; iexact HO
  · iempintro

/-! ## The remote copies -/

def sendInv (c : Dev nD) (l : List (Fin 31)) : sProp 𝕄 :=
  iprop(records a K ∗ ∃ W, owes (c : Thread nD τ) (dueR c l) W)

/-- What a copy takes: the block, the rows on the target, and the tokens of the two semaphores it credits. -/
def sendPre (c : Dev nD) (i : Fin 31) : sProp 𝕄 :=
  iprop(slabPts c i (pieces (a c)) ∗ rowAny (tgt c i) c ∗ dutyTok ER (sndCell c i) 0 0 ∗ dutyTok ER (rcvCell (tgt c i) i) 0 0)

def sendPost (c : Dev nD) (i : Fin 31) : sProp 𝕄 := cred (tallyAt (sndCell c i) () N)

/-- The rows landed on the target are what the target's semaphore hands over. -/
theorem landed_pts (c : Dev nD) (i : Fin 31) (f : Buf (Elt F) ((rowsOf oM c).view.loc (tgt c i : Thread nD τ))) :
    (((rowsOf oM c).view.loc (tgt c i : Thread nD τ) ↦[(rowsOf oM c).view.set]{fullShare}
        ((rowsOf oM c).view.write (Elt F) f ((slabFor yM c i).view.read (Elt F) (pieces (a c))) Finset.univ)) : sProp 𝕄)
      ⊢ (sched a).payload (rcvCell (tgt c i) i) 0 0 := by
  rw [payload_rcv, src_tgt]
  unfold rowPts
  exact Entails.of_eq (pointsTo_congr fun x hx => landed_apply a c i f (by rw [rowsOf_set] at hx; exact hx))

theorem send_step_at (c n : Dev nD) (i : Fin 31) (hn : n = tgt c i) {hsc : (rowsOf oM c).view.ref.isScScratch = false}
    {hsrc : (slabFor yM c i).view.WordExact} {hdst : (rowsOf oM c).view.WordExact}
    {hsem : DmaTarget.Typed .vmem (rcvLoc i) (.remote (Dev.tc n : Thread nD τ) (rowsOf oM c) (sndLoc i) hsc)}
    (l : List (Fin 31)) (k : PUnit → Pr F PUnit) (Q : PUnit → sProp 𝕄) :
    iprop(sendInv a K c (i :: l) ∗ sendPre a c i ∗ ((sendInv a K c l ∗ sendPost c i) -∗ wpc c (k ⟨⟩) Q))
      ⊢ wpc c (.op (.enqueueDma (slabFor yM c i) (.remote (Dev.tc n : Thread nD τ) (rowsOf oM c) (sndLoc i) hsc) (rcvLoc i) hsrc hdst hsem) k) Q := by
  subst hn
  unfold sendInv sendPre sendPost rowAny slabPts rowPts
  iintro ⟨⟨#HR, %W, HO⟩, ⟨Hs, ⟨%f, Hrow⟩, Ht1, Ht2⟩, Hk⟩
  iapply (Rounds.wp_send_pointsTo 𝒱₀ ER (sched a) (c : Thread nD τ) none (κ₁ := K (c, .inr (.inr (.inl i)))) (κ₂ := K (tgt c i, .inr (.inr (.inr i))))
    (r₁ := 0) (r₂ := 0) (d₁ := 0) (d₂ := 0) (fd := f)
    (by rw [duties_snd]; exact Finset.mem_singleton_self _) (by rw [duties_rcv]; exact Finset.mem_singleton_self _)
    () () N rfl (amount_snd a c i 0) (amount_rcv a (tgt c i) i 0) (dueR c l) (dueR_cons c i l) (W := W)
    (by rw [payload_snd]; exact BI.Entails.refl _) (landed_pts a c i f)) $$ [Hs Hrow HO Ht1 Ht2]
  · isplitr; · iapply (inv_at a K (c, .inr (.inr (.inl i)))); iexact HR
    isplitr; · iapply (inv_at a K (tgt c i, .inr (.inr (.inr i)))); iexact HR
    isplitl [Hs]; · iexact Hs
    isplitl [Hrow]; · iexact Hrow
    isplitl [HO]; · iexact HO
    isplitl [Ht1]; · iexact Ht1
    isplitr; · iapply (reached_at a K (c, .inr (.inr (.inl i)))); iexact HR
    isplitl [Ht2]; · iexact Ht2
    iapply (reached_at a K (tgt c i, .inr (.inr (.inr i)))); iexact HR
  iintro ⟨Hc, HO⟩
  iapply Hk
  isplitl [HO]
  · isplitr; · iexact HR
    iexists W; iexact HO
  · iexact Hc

theorem send_step (c : Dev nD) (i : Fin 31) (l : List (Fin 31)) (k : PUnit → Pr F PUnit) (Q : PUnit → sProp 𝕄) :
    iprop(sendInv a K c (i :: l) ∗ sendPre a c i ∗ ((sendInv a K c l ∗ sendPost c i) -∗ wpc c (k ⟨⟩) Q))
      ⊢ wpc c (sendTo oM yM cc0_scratch1 cc0_scratch2 c i >>= k) Q := by
  unfold sendTo
  simp only [Prog.lift, Prog.bind_op, Prog.bind_ret, Prog.pure_eq_ret]
  exact send_step_at a K c (cpyDev c i) i (cpyDev_eq c i) l k Q

/-! ## The waits -/

def waitInv (c : Dev nD) (_ : List (Fin 31)) : sProp 𝕄 :=
  iprop(records a K ∗ ∃ W, owes (c : Thread nD τ) 0 W)

/-- What the two waits at an offset take: the credits, and the positions at round 0. -/
def waitPre (c : Dev nD) (i : Fin 31) : sProp 𝕄 :=
  iprop(cred (tallyAt (sndCell c i) () N) ∗ cred (tallyAt (rcvCell c i) () N) ∗ atPos ER (sndCell c i) 0 ∅ 0 ∗ atPos ER (rcvCell c i) 0 ∅ 0)

/-- What they leave: the sent block, the received rows, and the two counters at zero. -/
def waitPost (c : Dev nD) (i : Fin 31) : sProp 𝕄 :=
  iprop(slabPts c i (pieces (a c)) ∗ rowPts c (src c i) (joined a c) ∗ semVal (sndCell c i) 0 ∗ semVal (rcvCell c i) 0)

theorem wait_step (c : Dev nD) (i : Fin 31) (l : List (Fin 31)) (k : PUnit → Pr F PUnit) (Q : PUnit → sProp 𝕄) :
    iprop(waitInv a K c (i :: l) ∗ waitPre c i ∗ ((waitInv a K c l ∗ waitPost a c i) -∗ wpc c (k ⟨⟩) Q))
      ⊢ wpc c (waitBoth oM yM cc0_scratch1 cc0_scratch2 c i >>= k) Q := by
  unfold waitBoth
  simp only [Prog.lift, Prog.bind_op, Prog.bind_ret, Prog.pure_eq_ret]
  unfold waitInv waitPre waitPost
  iintro ⟨⟨#HR, %W, HO⟩, ⟨Hc1, Hc2, Ha1, Ha2⟩, Hk⟩
  iapply (Rounds.wp_wait_rest_token 𝒱₀ ER (sched a) (c : Thread nD τ) none (κ := K (c, .inr (.inr (.inl i))))
      (wpE_waitDma2_eq 𝒱₀ (c : Thread nD τ) none Set.univ) (Set.mem_univ _) () (O := 0) (W := W) (R := 0) (m := 0) (T := ∅)
      (by rw [Nat.zero_add, expect_snd])) $$ [Hc1 HO Ha1]
  · isplitr; · iapply (inv_at a K (c, .inr (.inr (.inl i)))); iexact HR
    isplitl [Hc1]; · iexact Hc1
    isplitl [HO]; · iexact HO
    isplitr; · rw [MayWait_zero]; iempintro
    iexact Ha1
  iintro ⟨HO, Ha1, -, Hp1⟩
  ihave Hs := (Entails.of_eq (rest_snd a c i)) $$ Hp1
  iapply (Rounds.wp_wait_rest_token 𝒱₀ ER (sched a) (c : Thread nD τ) none (κ := K (c, .inr (.inr (.inr i))))
      (wpE_waitDma2_eq 𝒱₀ (c : Thread nD τ) none Set.univ) (Set.mem_univ _) () (O := 0) (W := insert (sndLoc i, ()) W) (R := 0) (m := 0) (T := ∅)
      (by rw [Nat.zero_add, expect_rcv])) $$ [Hc2 HO Ha2]
  · isplitr; · iapply (inv_at a K (c, .inr (.inr (.inr i)))); iexact HR
    isplitl [Hc2]; · iexact Hc2
    isplitl [HO]; · iexact HO
    isplitr; · rw [MayWait_zero]; iempintro
    iexact Ha2
  iintro ⟨HO, Ha2, -, Hp2⟩
  ihave Hr := (Entails.of_eq (rest_rcv a c i)) $$ Hp2
  imod (Rounds.cell_close ER (sched a) (Set.mem_univ (K (c, .inr (.inr (.inl i))))) (fun h => h) (R := 0 + 1) (duties_later a (sndCell c i))) $$ [Ha1] with Hz1
  · isplitr; · iapply (inv_at a K (c, .inr (.inr (.inl i)))); iexact HR
    iexact Ha1
  imod (Rounds.cell_close ER (sched a) (Set.mem_univ (K (c, .inr (.inr (.inr i))))) (fun h => h) (R := 0 + 1) (duties_later a (rcvCell c i))) $$ [Ha2] with Hz2
  · isplitr; · iapply (inv_at a K (c, .inr (.inr (.inr i)))); iexact HR
    iexact Ha2
  iapply Hk
  isplitl [HO]
  · isplitr; · iexact HR
    iexists _; iexact HO
  isplitl [Hs]; · iexact Hs
  isplitl [Hr]; · iexact Hr
  isplitl [Hz1] <;> iassumption

end Cert.KernelIdeal.A2a

end
-- ==== Proof.KernelIdeal.Body.lean ====
/-
The kernel's body under the protocol: from a device's share of the protocol's state, its staged operands and its two
buffers, the body runs without fault, leaves the device's result complete and every semaphore counter at zero.
-/
module

public import proofs.«01_k».proof.Proof.KernelIdeal.Loops

@[expose] public section

noncomputable section

namespace Cert.KernelIdeal.A2a

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The two buffers in parts -/

/-- Device `c`'s result, whole. -/
def oPts (c : Dev nD) (f : FVec F S1024x32 .f32) : sProp 𝕄 := ((c : Thread nD τ).loc cc0_stg2_0) ↦{fullShare} (f : Buf (Elt F) ((c : Thread nD τ).loc cc0_stg2_0))

/-- A separating conjunction over the devices: one device, and the others listed by offsets. -/
theorem bigSep_devs (c : Dev nD) (t : Fin 31 → Dev nD) (hinj : Function.Injective t) (hne : ∀ i, t i ≠ c) (hall : ∀ d, d ≠ c → ∃ i, t i = d)
    (Φ : Dev nD → sProp 𝕄) : bigSep Finset.univ Φ = iprop(Φ c ∗ bigSepL offs fun i => Φ (t i)) := by
  rw [bigSep_univ_at Φ c, show Finset.univ.erase c = Finset.univ.map ⟨t, hinj⟩ from ?_, bigSep_map,
    bigSep_univ_eq_bigSepL offs (by decide) (by decide)]
  · rfl
  · ext d
    rw [Finset.mem_erase, Finset.mem_map]
    constructor
    · rintro ⟨h, -⟩
      obtain ⟨i, hi⟩ := hall d h
      exact ⟨i, Finset.mem_univ _, hi⟩
    · rintro ⟨i, -, rfl⟩
      exact ⟨hne i, Finset.mem_univ _⟩

theorem src_inj (c : Dev nD) : Function.Injective (src c) := fun i j h => by
  rw [src_eq_tgt_rev, src_eq_tgt_rev] at h
  exact Fin.rev_injective (tgt_inj c _ _ h)

/-- The result in the rows of every device. -/
theorem oPts_rows (c : Dev nD) (f : FVec F S1024x32 .f32) : (oPts c f : sProp 𝕄) = bigSep Finset.univ fun d : Dev nD => rowPts c d f := by
  have e : (Finset.univ : Finset (S1024x32).Idx) = (Finset.univ : Finset (Dev nD)).biUnion rowSet := by
    ext x
    refine ⟨fun _ => Finset.mem_biUnion.mpr ⟨⟨(x 0).val / 32, by have h0 : (x 0).val < 1024 := (x 0).isLt; show _ < 32; omega⟩, Finset.mem_univ _, ?_⟩,
      fun _ => Finset.mem_univ _⟩
    exact Finset.mem_filter.mpr ⟨Finset.mem_univ _, rfl⟩
  unfold oPts
  show ((((c : Thread nD τ).loc cc0_stg2_0) ↦[(Finset.univ : Finset (S1024x32).Idx)]{fullShare} f) : sProp 𝕄) = _
  rw [e]
  refine (pointsTo_biUnion (ℓ := (c : Thread nD τ).loc cc0_stg2_0) Finset.univ rowSet fun d _ d' _ hd => ?_).trans
    (bigSep_congr fun d _ => by unfold rowPts; rw [rowsOf_set])
  rw [Finset.disjoint_left]
  intro x h h'
  exact hd (Fin.ext ((Finset.mem_filter.mp h).2.symm.trans (Finset.mem_filter.mp h').2))

/-- Rows with equal contents. -/
theorem rowPts_congr (c d : Dev nD) (f g : FVec F S1024x32 .f32) (h : ∀ x ∈ rowSet d, f x = g x) : (rowPts c d f : sProp 𝕄) = rowPts c d g := by
  unfold rowPts
  exact pointsTo_congr fun x hx => h x (rowsOf_set d ▸ hx)

/-- Device `c`'s block buffer, in its own block. -/
def ownSlab (c : Dev nD) (f : FVec F S32x32x32 .f32) : sProp 𝕄 :=
  ((c : Thread nD τ).loc cc0_scratch0) ↦[slabSet c]{fullShare} (f : Buf (Elt F) ((c : Thread nD τ).loc cc0_scratch0))

/-- The block buffer: its own block, and the blocks for the others. -/
theorem yPts_slabs (c : Dev nD) (f : FVec F S32x32x32 .f32) :
    (yPts c f : sProp 𝕄) = iprop(ownSlab c f ∗ bigSepL offs fun i => slabPts c i f) := by
  have e : (Finset.univ : Finset (S32x32x32).Idx) = (Finset.univ : Finset (Dev nD)).biUnion slabSet := by
    ext x
    exact ⟨fun _ => Finset.mem_biUnion.mpr ⟨x 0, Finset.mem_univ _, Finset.mem_filter.mpr ⟨Finset.mem_univ _, rfl⟩⟩, fun _ => Finset.mem_univ _⟩
  unfold yPts
  show ((((c : Thread nD τ).loc cc0_scratch0) ↦[(Finset.univ : Finset (S32x32x32).Idx)]{fullShare} f) : sProp 𝕄) = _
  rw [e]
  refine (pointsTo_biUnion (ℓ := (c : Thread nD τ).loc cc0_scratch0) Finset.univ slabSet fun d _ d' _ hd => ?_).trans ?_
  · rw [Finset.disjoint_left]
    intro x h h'
    exact hd (Fin.ext ((Finset.mem_filter.mp h).2.symm.trans (Finset.mem_filter.mp h').2))
  · rw [bigSep_devs c (tgt c) (fun i j h => tgt_inj c i j h) (tgt_ne c) (exists_tgt c)]
    unfold ownSlab
    congr 2
    funext i
    unfold slabPts
    rw [slabFor_set]

/-! ## The pipeline's proof data -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The block of `x` that device `c` holds, and its copy of `w`, staged. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Device `c`'s activated product. -/
def act (c : Dev nD) : FVec F S32x1024 .f32 := k0_pay1 (xstg m ρ c) (wstg m ρ c)

/-- What device `c` ends with: its column block of every device's activated product. -/
def outAt (c : Dev nD) : (cc0_stg2_0 : Ref sig .tc).ty.Contents (Elt F) := joined (act m ρ) c

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The share of the protocol's state that device `c` starts from: all invariants; its positions at round 0 of its
    semaphores; the tokens of the duties that it pays. -/
def ghost (K : Dev nD × (Unit ⊕ OS) → ℕ) (c : Dev nD) : sProp 𝕄 :=
  iprop(records (act m ρ) K
    ∗ (atPos ER (barCell c) 0 ∅ 0 ∗ atPos ER ((c : Thread nD τ), osem (.inl false)) 0 ∅ 0 ∗ atPos ER ((c : Thread nD τ), osem (.inl true)) 0 ∅ 0
      ∗ (bigSepL offs fun i => atPos ER (sndCell c i) 0 ∅ 0) ∗ (bigSepL offs fun i => atPos ER (rcvCell c i) 0 ∅ 0))
    ∗ (bigSepL offs fun i => dutyTok ER (barCell (tgt c i)) 0 i) ∗ (bigSepL offs fun i => dutyTok ER (sndCell c i) 0 0)
    ∗ (bigSepL offs fun i => dutyTok ER (rcvCell (tgt c i) i) 0 0))

/-- The credits that it waits with, and the level facts. -/
def credits (c : Dev nD) : sProp 𝕄 :=
  iprop(cred (tallyAt (barCell c) () 31) ∗ (bigSepL offs fun i => cred (tallyAt (rcvCell c i) () N)) ∗ levAts L lv)

def start (c : Dev nD) : sProp 𝕄 := iprop((∃ K, ghost m ρ K c) ∗ credits c)

def Φ₀ (c : Dev nD) : sProp 𝕄 := iprop(start m ρ c ∗ ∃ f, yPts c f)
/-- After the body: the block buffer, and every semaphore of the protocol at zero. -/
def Φ₁ (c : Dev nD) : sProp 𝕄 :=
  iprop(yPts c (pieces (act m ρ c)) ∗ semVal (barCell c) 0
    ∗ semVal ((c : Thread nD τ), osem (.inl false)) 0 ∗ semVal ((c : Thread nD τ), osem (.inl true)) 0
    ∗ (bigSepL offs fun i => semVal (sndCell c i) 0) ∗ (bigSepL offs fun i => semVal (rcvCell c i) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem hz : (![0, 0] : Fin 2 → Nat) = fun _ => 0 := funext fun a => by fin_cases a <;> rfl
theorem read_x (f : (cc0_stg0_0 : Ref sig .tc).ty.Contents (Elt F)) :
    xM.view.readAt (Elt F) (Rect.unit (s := S32x1024) ![0, 0] S32x1024.size inb_S32x1024_S32x1024_0_0).toLoadRect f = f :=
  Memref.readAt_unit_zero (Elt F) cc0_stg0_0 hz _ f
theorem read_w (f : (cc0_stg1_0 : Ref sig .tc).ty.Contents (Elt F)) :
    wM.view.readAt (Elt F) (Rect.unit (s := S1024x1024) ![0, 0] S1024x1024.size inb_S1024x1024_S1024x1024_0_0).toLoadRect f = f :=
  Memref.readAt_unit_zero (Elt F) cc0_stg1_0 hz _ f

section
variable (a : Dev nD → FVec F S32x1024 .f32) (K : Dev nD × (Unit ⊕ OS) → ℕ)

/-- The rows kept: from the block buffer in its blocks and the result, the result with the device's own rows done. -/
theorem wp_keepOwn (c : Dev nD) (k : PUnit → Pr F PUnit) (Q : PUnit → sProp 𝕄) :
    iprop(yPts c (pieces (a c)) ∗ (∃ f, oPts c f)
        ∗ ((yPts c (pieces (a c)) ∗ ∃ f : FVec F S1024x32 .f32, ⌜∀ x ∈ rowSet c, f x = joined a c x⌝ ∗ oPts c f) -∗ wpc c (k ⟨⟩) Q))
      ⊢ wpc c (keepOwn oM yM c >>= k) Q := by
  unfold keepOwn
  simp only [Prog.lift, Prog.bind_op, Prog.bind_ret, Prog.pure_eq_ret]
  unfold yPts oPts
  iintro ⟨Hy, ⟨%f, Ho⟩, Hk⟩
  iapply (wp_load 𝒱₀ (c : Thread nD τ) none Set.univ (m := yM) (Finset.subset_univ _)) $$ Hy; iintro Hy
  iapply (wp_load 𝒱₀ (c : Thread nD τ) none Set.univ (m := oM) (Finset.subset_univ _)) $$ Ho; iintro Ho
  iapply (wp_store 𝒱₀ (c : Thread nD τ) none Set.univ (m := oM) (r := Rect.unit (s := S1024x32) (k0_off2 c) S32x32.size (k0_off2_inb c))
    (Mk := Finset.univ) (Finset.subset_univ _)) $$ Ho; iintro Ho
  iapply Hk
  isplitl [Hy]; · iexact Hy
  iexists ((oM.access (Rect.unit (s := S1024x32) (k0_off2 c) S32x32.size (k0_off2_inb c))).write (Elt F) f
        (k0_pay38 (yM.view.readAt (Elt F) (Rect.unit (s := S32x32x32) (k0_off1 c) S1x32x32.size (k0_off1_inb c)).toLoadRect (pieces (a c)))) Finset.univ)
  isplitr
  · ipureintro; exact fun x hx => own_apply a c f hx
  · iexact Ho

/-- The barrier wait: with the 31 units come the rows on every target. -/
theorem wp_barWait (c : Dev nD) (k : PUnit → Pr F PUnit) (Q : PUnit → sProp 𝕄) :
    iprop(sigInv a K c [] ∗ cred (tallyAt (barCell c) () 31) ∗ levAts L lv ∗ atPos ER (barCell c) 0 ∅ 0
        ∗ ((sendInv a K c offs ∗ (bigSepL offs fun i => rowAny (tgt c i) c) ∗ semVal (barCell c) 0) -∗ wpc c (k ⟨⟩) Q))
      ⊢ wpc c (semWaitWord barS 31#32 >>= k) Q := by
  simp only [semWaitWord, Prog.lift, Prog.bind_op, Prog.bind_ret, Prog.pure_eq_ret]
  unfold sigInv sendInv
  rw [show dueR c offs + dueB c [] = dueR c offs from add_zero _]
  iintro ⟨⟨#HR, %W, HO⟩, Hc, #Hlev, Ha, Hk⟩
  iapply (Rounds.wp_wait_rest_token 𝒱₀ ER (sched a) (c : Thread nD τ) none (κ := K (c, .inl ()))
      (wpE_semWait_eq 𝒱₀ (c : Thread nD τ) none Set.univ) (Set.mem_univ _) () (O := dueR c offs) (W := W) (R := 0) (m := 0) (T := ∅)
      (by rw [expect_bar]; decide)) $$ [Hc HO Ha]
  · isplitr; · iapply (inv_at a K (c, .inl ())); iexact HR
    isplitl [Hc]; · iexact Hc
    isplitl [HO]; · iexact HO
    isplitr; · iapply (mayWait_bar c); iexact Hlev
    iexact Ha
  iintro ⟨HO, Ha, -, Hp⟩
  ihave Hrows := (Entails.of_eq ((rest_bar a c).trans (bigSep_univ_eq_bigSepL offs (by decide) (by decide) _))) $$ Hp
  imod (Rounds.cell_close ER (sched a) (Set.mem_univ (K (c, .inl ()))) (fun h => h) (R := 0 + 1) (duties_later a (barCell c))) $$ [Ha] with Hz
  · isplitr; · iapply (inv_at a K (c, .inl ())); iexact HR
    iexact Ha
  iapply Hk
  isplitl [HO]
  · isplitr; · iexact HR
    iexists _; iexact HO
  isplitl [Hrows]; · iexact Hrows
  iexact Hz

/-- An unused semaphore closes where it is. -/
theorem close_spare (c : Dev nD) (b : Bool) :
    iprop(records a K ∗ atPos ER ((c : Thread nD τ), osem (.inl b)) 0 ∅ 0) ⊢ |={Set.univ}=> (semVal ((c : Thread nD τ), osem (.inl b)) 0 : sProp 𝕄) := by
  iintro ⟨#HR, Ha⟩
  imod (Rounds.cell_close ER (sched a) (Set.mem_univ (K (c, .inr (.inl b)))) (fun h => h) (R := 0) (fun r _ => duties_spare a c b r)) $$ [Ha] with Hz
  · isplitr; · iapply (inv_at a K (c, .inr (.inl b))); iexact HR
    iexact Ha
  imodintro
  iexact Hz

end

/-! ## The whole body -/

/-- Two lists of facts, one per offset, as one list. -/
theorem sepL (Φ Ψ : Fin 31 → sProp 𝕄) : bigSepL offs (fun i => iprop(Φ i ∗ Ψ i)) = iprop(bigSepL offs Φ ∗ bigSepL offs Ψ) := by
  rw [← bigSep_univ_eq_bigSepL offs (by decide) (by decide), ← bigSep_univ_eq_bigSepL offs (by decide) (by decide),
    ← bigSep_univ_eq_bigSepL offs (by decide) (by decide), bigSep_sep']

theorem empL {α : Type} : ∀ l : List α, (iprop(emp) : sProp 𝕄) ⊢ bigSepL l fun _ => iprop(emp)
  | [] => Entails.of_eq (bigSepL_nil _).symm
  | i :: l => by
    rw [bigSepL_cons']
    iintro -
    isplitr; · iempintro
    iapply (empL l)
    iempintro

section
variable (a : Dev nD → FVec F S32x1024 .f32) (K : Dev nD × (Unit ⊕ OS) → ℕ)

/-- The waits, and the end: both buffers whole, the counters of the transfers at zero. -/
theorem wp_tail_wait (c : Dev nD) (f : FVec F S1024x32 .f32) (hf : ∀ x ∈ rowSet c, f x = joined a c x) (Q : PUnit → sProp 𝕄) :
    iprop(waitInv a K c offs ∗ ownSlab c (pieces (a c)) ∗ rowPts c c f
        ∗ (bigSepL offs fun i => cred (tallyAt (sndCell c i) () N)) ∗ (bigSepL offs fun i => cred (tallyAt (rcvCell c i) () N))
        ∗ (bigSepL offs fun i => atPos ER (sndCell c i) 0 ∅ 0) ∗ (bigSepL offs fun i => atPos ER (rcvCell c i) 0 ∅ 0)
        ∗ (((∃ W, owes (c : Thread nD τ) 0 W) ∗ yPts c (pieces (a c)) ∗ oPts c (joined a c)
            ∗ (bigSepL offs fun i => semVal (sndCell c i) 0) ∗ (bigSepL offs fun i => semVal (rcvCell c i) 0)) -∗ Q ⟨⟩))
      ⊢ wpc c (each (waitBoth oM yM cc0_scratch1 cc0_scratch2 c) (pure ⟨⟩) offs) Q := by
  iintro ⟨Hi, Hy, Ho, H1, H2, H3, H4, Hk⟩
  iapply (wp_each c (waitBoth oM yM cc0_scratch1 cc0_scratch2 c) (pure ⟨⟩) (waitInv a K c) (waitPre c) (waitPost a c) (wait_step a K c) offs Q)
  isplitl [Hi]; · iexact Hi
  isplitl [H1 H2 H3 H4]
  · unfold waitPre
    rw [sepL, sepL, sepL]
    isplitl [H1]; · iexact H1
    isplitl [H2]; · iexact H2
    isplitl [H3] <;> iassumption
  unfold waitInv waitPost
  rw [sepL, sepL, sepL]
  iintro ⟨⟨-, HO⟩, Hys, Hos, Hz1, Hz2⟩
  unfold wpc
  rw [Prog.pure_eq_ret, wp_ret]; imodintro
  iapply Hk
  isplitl [HO]; · iexact HO
  isplitl [Hy Hys]
  · rw [yPts_slabs]
    isplitl [Hy] <;> iassumption
  isplitl [Ho Hos]
  · rw [oPts_rows, bigSep_devs c (src c) (src_inj c) (src_ne c) (exists_src c)]
    isplitl [Ho]
    · iapply (Entails.of_eq (rowPts_congr c c f (joined a c) hf))
      iexact Ho
    · iexact Hos
  isplitl [Hz1] <;> iassumption

/-- The sends, then the waits. -/
theorem wp_tail_send (c : Dev nD) (f : FVec F S1024x32 .f32) (hf : ∀ x ∈ rowSet c, f x = joined a c x) (Q : PUnit → sProp 𝕄) :
    iprop(sendInv a K c offs ∗ yPts c (pieces (a c)) ∗ rowPts c c f ∗ (bigSepL offs fun i => rowAny (tgt c i) c)
        ∗ (bigSepL offs fun i => dutyTok ER (sndCell c i) 0 0) ∗ (bigSepL offs fun i => dutyTok ER (rcvCell (tgt c i) i) 0 0)
        ∗ (bigSepL offs fun i => cred (tallyAt (rcvCell c i) () N))
        ∗ (bigSepL offs fun i => atPos ER (sndCell c i) 0 ∅ 0) ∗ (bigSepL offs fun i => atPos ER (rcvCell c i) 0 ∅ 0)
        ∗ (((∃ W, owes (c : Thread nD τ) 0 W) ∗ yPts c (pieces (a c)) ∗ oPts c (joined a c)
            ∗ (bigSepL offs fun i => semVal (sndCell c i) 0) ∗ (bigSepL offs fun i => semVal (rcvCell c i) 0)) -∗ Q ⟨⟩))
      ⊢ wpc c (each (sendTo oM yM cc0_scratch1 cc0_scratch2 c) (each (waitBoth oM yM cc0_scratch1 cc0_scratch2 c) (pure ⟨⟩) offs) offs) Q := by
  iintro ⟨Hi, Hy, Ho, Hr, Ht1, Ht2, H2, H3, H4, Hk⟩
  ihave Hy := (Entails.of_eq (yPts_slabs c (pieces (a c)))) $$ Hy
  icases Hy with ⟨Hy, Hys⟩
  iapply (wp_each c (sendTo oM yM cc0_scratch1 cc0_scratch2 c) _ (sendInv a K c) (sendPre a c) (sendPost c) (send_step a K c) offs Q)
  isplitl [Hi]; · iexact Hi
  isplitl [Hys Hr Ht1 Ht2]
  · unfold sendPre
    rw [sepL, sepL, sepL]
    isplitl [Hys]; · iexact Hys
    isplitl [Hr]; · iexact Hr
    isplitl [Ht1] <;> iassumption
  iintro ⟨Hi, H1⟩
  iapply (wp_tail_wait a K c f hf Q)
  isplitl [Hi]
  · unfold sendInv waitInv
    iexact Hi
  isplitl [Hy]; · iexact Hy
  isplitl [Ho]; · iexact Ho
  isplitl [H1]; · unfold sendPost; iexact H1
  isplitl [H2]; · iexact H2
  isplitl [H3]; · iexact H3
  isplitl [H4]; · iexact H4
  iexact Hk

/-- The handshake, then the transfers: from the result with the device's own rows done. -/
theorem wp_tail_sig (c : Dev nD) (f : FVec F S1024x32 .f32) (hf : ∀ x ∈ rowSet c, f x = joined a c x) (Q : PUnit → sProp 𝕄) :
    iprop(sigInv a K c offs ∗ yPts c (pieces (a c)) ∗ oPts c f
        ∗ (bigSepL offs fun i => dutyTok ER (barCell (tgt c i)) 0 i)
        ∗ cred (tallyAt (barCell c) () 31) ∗ levAts L lv ∗ atPos ER (barCell c) 0 ∅ 0
        ∗ (bigSepL offs fun i => dutyTok ER (sndCell c i) 0 0) ∗ (bigSepL offs fun i => dutyTok ER (rcvCell (tgt c i) i) 0 0)
        ∗ (bigSepL offs fun i => cred (tallyAt (rcvCell c i) () N))
        ∗ (bigSepL offs fun i => atPos ER (sndCell c i) 0 ∅ 0) ∗ (bigSepL offs fun i => atPos ER (rcvCell c i) 0 ∅ 0)
        ∗ ((semVal (barCell c) 0 ∗ (∃ W, owes (c : Thread nD τ) 0 W) ∗ yPts c (pieces (a c)) ∗ oPts c (joined a c)
            ∗ (bigSepL offs fun i => semVal (sndCell c i) 0) ∗ (bigSepL offs fun i => semVal (rcvCell c i) 0)) -∗ Q ⟨⟩))
      ⊢ wpc c (each (signalTo c) (semWaitWord barS 31#32 >>= fun _ =>
          each (sendTo oM yM cc0_scratch1 cc0_scratch2 c) (each (waitBoth oM yM cc0_scratch1 cc0_scratch2 c) (pure ⟨⟩) offs) offs) offs) Q := by
  iintro ⟨Hi, Hy, Ho, Ht, Hcb, Hlev, Hab, Ht1, Ht2, H2, H3, H4, Hk⟩
  have hsplit : (oPts c f : sProp 𝕄) ⊢ iprop(rowPts c c f ∗ bigSepL offs fun i => rowAny c (tgt c i)) := by
    rw [oPts_rows, bigSep_devs c (tgt c) (fun i j h => tgt_inj c i j h) (tgt_ne c) (exists_tgt c)]
    refine sep_mono_right (bigSepL_mono fun i _ => ?_)
    unfold rowAny
    iintro H
    iexists f
    iexact H
  ihave Ho := hsplit $$ Ho
  icases Ho with ⟨Ho, Hos⟩
  iapply (wp_each c (signalTo c) _ (sigInv a K c) (sigPre c) (fun _ => iprop(emp)) (sig_step a K c) offs Q)
  isplitl [Hi]; · iexact Hi
  isplitl [Ht Hos]
  · unfold sigPre
    rw [sepL]
    isplitl [Ht] <;> iassumption
  iintro ⟨Hi, -⟩
  iapply (wp_barWait a K c)
  isplitl [Hi]; · iexact Hi
  isplitl [Hcb]; · iexact Hcb
  isplitl [Hlev]; · iexact Hlev
  isplitl [Hab]; · iexact Hab
  iintro ⟨Hi, Hr, Hz⟩
  iapply (wp_tail_send a K c f hf Q)
  isplitl [Hi]; · iexact Hi
  isplitl [Hy]; · iexact Hy
  isplitl [Ho]; · iexact Ho
  isplitl [Hr]; · iexact Hr
  isplitl [Ht1]; · iexact Ht1
  isplitl [Ht2]; · iexact Ht2
  isplitl [H2]; · iexact H2
  isplitl [H3]; · iexact H3
  isplitl [H4]; · iexact H4
  iintro ⟨HO, H⟩
  iapply Hk
  isplitl [Hz]; · iexact Hz
  isplitl [HO]; · iexact HO
  iexact H

end

section Body

variable (K : Dev nD × (Unit ⊕ OS) → ℕ)

/-- What the body leaves. -/
def bodyPost (c : Dev nD) : sProp 𝕄 :=
  iprop(Φ₁ m ρ c ∗ (dats m ρ 0 c).owesAt () t₀.succ ∗ stg c cc0_stg0_0 (xstg m ρ c) ∗ stg c cc0_stg1_0 (wstg m ρ c) ∗ stg c cc0_stg2_0 (outAt m ρ c))

/-- What it takes. -/
def bodyPre (c : Dev nD) : sProp 𝕄 :=
  iprop(ghost m ρ K c ∗ credits c ∗ (∃ f, yPts c f) ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- The body's triple on device `c`: from its part of the protocol, its staged operands and its two buffers, the body
    runs and leaves what `bodyPost` states. -/
theorem sound_body (c : Dev nD) :
    bodyPre m ρ K c ⊢ wpc c (loopBody xM wM oM yM cc0_scratch1 cc0_scratch2) (fun _ => bodyPost m ρ c) := by
  unfold bodyPre ghost credits
  iintro ⟨⟨#HR, ⟨Hab, Has1, Has2, H3, H4⟩, Ht, Ht1, Ht2⟩, ⟨Hcb, H2, Hlev⟩, ⟨%fy, Hy⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t₀)]; rfl
  have hw : g1 = wstg m ρ c := by rw [hg1]; unfold Dat.before; rw [if_pos (fetch0_1 t₀)]; rfl
  subst hx; subst hw
  unfold Dat.owesAt Pipeline.owesWithin
  rw [show (dats m ρ 0 c).owed t₀.castSucc = O₀ c from rfl]
  icases Ho with ⟨%W, %hW, HO⟩
  unfold loopBody wpc
  simp only [Prog.lift, Prog.bind_op, Prog.bind_ret, Prog.pure_eq_ret]
  rw [wp_deviceId]
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [read_x, read_w]
  iapply (wp_each c (putBlock yM (act m ρ c)) _ (putInv c (act m ρ c)) (fun _ => iprop(emp)) (fun _ => iprop(emp)) (put_step c (act m ρ c)) blocks _)
  isplitl [Hy]
  · unfold putInv
    iexists fy
    isplitr
    · ipureintro
      intro b hb
      exact absurd (show b ∈ blocks by revert b; decide) hb
    · iexact Hy
  isplitr; · iapply (empL blocks); iempintro
  unfold putInv
  iintro ⟨⟨%f, %hf, Hy⟩, -⟩
  obtain rfl : f = pieces (act m ρ c) := funext fun x => hf (x 0) (List.not_mem_nil) x rfl
  iapply (wp_keepOwn (act m ρ) c)
  isplitl [Hy]; · iexact Hy
  isplitl [Hout]; · iexists g2; unfold oPts; iexact Hout
  iintro ⟨Hy, %fo, %hfo, Hout⟩
  imod (close_spare (act m ρ) K c false) $$ [Has1] with Hs1
  · isplitr; · iexact HR
    iexact Has1
  imod (close_spare (act m ρ) K c true) $$ [Has2] with Hs2
  · isplitr; · iexact HR
    iexact Has2
  iapply (wp_tail_sig (act m ρ) K c fo hfo)
  isplitl [HO]
  · unfold sigInv
    isplitr; · iexact HR
    iexists W
    iexact HO
  isplitl [Hy]; · iexact Hy
  isplitl [Hout]; · iexact Hout
  isplitl [Ht]; · iexact Ht
  isplitl [Hcb]; · iexact Hcb
  isplitl [Hlev]; · iexact Hlev
  isplitl [Hab]; · iexact Hab
  isplitl [Ht1]; · iexact Ht1
  isplitl [Ht2]; · iexact Ht2
  isplitl [H2]; · iexact H2
  isplitl [H3]; · iexact H3
  isplitl [H4]; · iexact H4
  iintro ⟨Hz, ⟨%W', HO⟩, Hy, Hout, Hz1, Hz2⟩
  unfold bodyPost Φ₁ Dat.owesAt Pipeline.owesWithin
  rw [show (dats m ρ 0 c).owed t₀.succ = 0 from rfl]
  isplitl [Hy Hz Hs1 Hs2 Hz1 Hz2]
  · isplitl [Hy]; · iexact Hy
    isplitl [Hz]; · iexact Hz
    isplitl [Hs1]; · iexact Hs1
    isplitl [Hs2]; · iexact Hs2
    isplitl [Hz1] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  unfold oPts outAt
  iexact Hout

def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 65536 in
/-- The pipeline's obligation on the body, on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) cc0_scratch1 cc0_scratch2) (fun _ => bodyPost m ρ c)
  rw [body_eq]
  unfold bodyPre' Φ₀ start
  iintro ⟨⟨⟨⟨%K, Hg⟩, Hc⟩, Hy⟩, Ho, Hx, Hw, Hout⟩
  iapply (sound_body m ρ K c)
  unfold bodyPre
  isplitl [Hg]; · iexact Hg
  isplitl [Hc]; · iexact Hc
  isplitl [Hy]; · iexact Hy
  isplitl [Ho]; · iexact Ho
  isplitl [Hx]; · iexact Hx
  isplitl [Hw] <;> iassumption

end Body

end Cert.KernelIdeal.A2a

end
-- ==== Proof.KernelIdeal.Launch.lean ====
/-
The launch: from the protocol's ghost state, dealt to the devices, the whole program on the mesh. Every execution
terminates, leaves the operands unchanged, every counter at zero and each device's result at its column block of every
device's activated product.
-/
module

public import proofs.«01_k».proof.Proof.KernelIdeal.Body
public import Idealize.ShloMosaic.Lib.Pipeline.CollectiveSegs

@[expose] public section

noncomputable section

namespace Cert.KernelIdeal.A2a

open Cert.KernelIdeal Cert.KernelIdeal.Gen
open Idealize.ShloMosaic Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

/-! ## Cells and tokens -/

def theCells : Finset (GSem nD τ sig) := Finset.univ.map ⟨kcell, kcell_injective⟩

/-- The kinds of duty of one device's cells: the barrier's for the signal at an offset, the send's and the receive's. -/
abbrev Duty : Type := Fin 31 ⊕ (Fin 31 ⊕ Fin 31)

def tokOf : Dev nD × Duty → GSem nD τ sig × ℕ × Fin 31
  | (c, .inl i) => (barCell c, 0, i)
  | (c, .inr (.inl i)) => (sndCell c i, 0, 0)
  | (c, .inr (.inr i)) => (rcvCell c i, 0, 0)

theorem tokOf_injective : Function.Injective tokOf := by
  rintro ⟨c, j⟩ ⟨c', j'⟩ h
  have hc : c = c' := by
    have := congrArg (fun x : GSem nD τ sig × ℕ × Fin 31 => x.1.1.1) h
    rcases j with i | i | i <;> rcases j' with i' | i' | i' <;> exact this
  have hs : role (tokOf (c, j)).1.2 = role (tokOf (c', j')).1.2 := by rw [h]
  have hd : (tokOf (c, j)).2.2 = (tokOf (c', j')).2.2 := by rw [h]
  subst hc
  rcases j with i | i | i <;> rcases j' with i' | i' | i' <;> simp only [tokOf, role_bar, role_snd, role_rcv] at hs hd
  all_goals first
    | (cases hd; rfl)
    | (cases hs; rfl)
    | cases hs

def theToks : Finset (GSem nD τ sig × ℕ × Fin 31) := Finset.univ.map ⟨tokOf, tokOf_injective⟩

def u₀ : UU := (initOf (Pipeline.cells cfgs cellOf_inj) (Pipeline.launchToks cfgs cellOf_inj), initOf theCells theToks)

/-- The duty tokens of device `c`'s own cells. -/
def toks (c : Dev nD) : sProp 𝕄 :=
  iprop((bigSep Finset.univ fun i : Fin 31 => dutyTok ER (barCell c) 0 i) ∗ (bigSep Finset.univ fun i : Fin 31 => dutyTok ER (sndCell c i) 0 0)
    ∗ (bigSep Finset.univ fun i : Fin 31 => dutyTok ER (rcvCell c i) 0 0))
/-- The tokens of the duties that device `c` pays. -/
def payToks (c : Dev nD) : sProp 𝕄 :=
  iprop((bigSep Finset.univ fun i : Fin 31 => dutyTok ER (barCell (tgt c i)) 0 i) ∗ (bigSep Finset.univ fun i : Fin 31 => dutyTok ER (sndCell c i) 0 0)
    ∗ (bigSep Finset.univ fun i : Fin 31 => dutyTok ER (rcvCell (tgt c i) i) 0 0))

/-- What the launch deals device `c`. -/
def G (c : Dev nD) : sProp 𝕄 :=
  iprop((bigSep Finset.univ fun k : Unit ⊕ OS => roundState ER (sched (act m ρ)) (kcell (c, k)) 0)
    ∗ (bigSep Finset.univ fun k : Unit ⊕ OS => atPos ER (kcell (c, k)) 0 ∅ 0)
    ∗ (bigSep Finset.univ fun k : Unit ⊕ OS => reached ER (kcell (c, k)) 0) ∗ toks c)
/-- What device `c` starts with. -/
def G' (c : Dev nD) : sProp 𝕄 := iprop(∃ K, ghost m ρ K c)

theorem fund_cells : BI.own (ER (initOf theCells theToks)) ⊢ (|==> bigSep Finset.univ (G m ρ) : sProp 𝕄) := by
  have hX (Φ : GSem nD τ sig → sProp 𝕄) :
      bigSep theCells Φ = bigSep Finset.univ fun c : Dev nD => bigSep Finset.univ fun k : Unit ⊕ OS => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [bigSep_univ_sum, bigSep_univ_sum]; rfl
  iintro HX
  imod (Rounds.fund ER (sched (act m ρ)) theCells theToks) $$ HX with ⟨Hst, Hr, Hat, Htok⟩
  imodintro
  ihave Hst' := (Entails.of_eq (hX fun g => roundState ER (sched (act m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-! ## The semaphores at launch -/

/-- A separating conjunction over the kernel's own semaphores, by kind. -/
theorem bigSep_own (Φ : OS → sProp 𝕄) : bigSep Finset.univ Φ
    = iprop((Φ (.inl false) ∗ Φ (.inl true)) ∗ (bigSepL offs fun i => Φ (.inr (.inl i))) ∗ (bigSepL offs fun i => Φ (.inr (.inr i)))) := by
  rw [bigSep_univ_sum, bigSep_univ_sum, bigSep_univ_eq_bigSepL [false, true] (by decide) (by decide),
    bigSep_univ_eq_bigSepL offs (by decide) (by decide), bigSep_univ_eq_bigSepL offs (by decide) (by decide)]
  rfl
/-- … and over all semaphores of the protocol. -/
theorem bigSep_all (Φ : Unit ⊕ OS → sProp 𝕄) : bigSep Finset.univ Φ = iprop(Φ (.inl ()) ∗ bigSep Finset.univ fun o : OS => Φ (.inr o)) := by
  rw [bigSep_univ_sum, bigSep_univ_eq_bigSepL [()] (by decide) (by decide)]
  rfl

/-- The barrier semaphore is the one that no region scopes. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Unit ⊕ OS => iprop(∃ κ : ℕ, cellInv ER (sched (act m ρ)) κ (kcell (c, k))))
          ∗ (bigSep Finset.univ fun k : Unit ⊕ OS => atPos ER (kcell (c, k)) 0 ∅ 0)
          ∗ (bigSep Finset.univ fun k : Unit ⊕ OS => reached ER (kcell (c, k)) 0) ∗ toks c) := by
  unfold G
  iintro ⟨Hos, Hus, Hst, Hrest⟩
  have hv : iprop(Pipeline.ownSems0 (Ix := Unit) (Name := ℕ) (U := UU) (Lvl := ℕ) (Val := Elt F) (τ := τ) osem c ∗ unscopedSems0 c)
      ⊢ (bigSep Finset.univ fun k : Unit ⊕ OS => semVal (kcell (c, k)) 0 : sProp 𝕄) := by
    rw [bigSep_all, unscopedSems0_eq]
    unfold Pipeline.ownSems0
    iintro ⟨H1, H2⟩
    isplitl [H2]
    · iexact H2
    · iexact H1
  ihave Hv := hv $$ [Hos Hus]
  · isplitl [Hos] <;> iassumption
  have halloc : iprop((bigSep Finset.univ fun k : Unit ⊕ OS => semVal (kcell (c, k)) 0)
        ∗ bigSep Finset.univ fun k : Unit ⊕ OS => roundState ER (sched (act m ρ)) (kcell (c, k)) 0)
      ⊢ (|={Set.univ}=> bigSep Finset.univ fun k : Unit ⊕ OS => iprop(∃ κ : ℕ, cellInv ER (sched (act m ρ)) κ (kcell (c, k))) : sProp 𝕄) := by
    rw [← bigSep_sep']
    exact (bigSep_mono fun k _ => (Rounds.body_intro ER (sched (act m ρ)) (kcell (c, k))).trans inv_alloc).trans (bigSep_fupd _ _)
  imod halloc $$ [Hv Hst] with Hinv
  · isplitl [Hv] <;> iassumption
  imodintro
  isplitl [Hinv]
  · iexact Hinv
  · iexact Hrest

/-! ## The state dealt -/

/-- The step by an offset permutes the devices. -/
def stepBy (i : Fin 31) : Dev nD ≃ Dev nD := ⟨fun c => tgt c i, fun c => src c i, fun c => src_tgt c i, fun c => tgt_src c i⟩

/-- A family over devices and offsets, dealt to the targets. -/
theorem deal (Φ : Dev nD → Fin 31 → sProp 𝕄) :
    (bigSep Finset.univ fun c : Dev nD => bigSep Finset.univ fun i : Fin 31 => Φ c i)
      = bigSep Finset.univ fun c : Dev nD => bigSep Finset.univ fun i : Fin 31 => Φ (tgt c i) i := by
  rw [BI.bigSep_univ_comm Φ, BI.bigSep_univ_comm fun (c : Dev nD) (i : Fin 31) => Φ (tgt c i) i]
  exact bigSep_congr fun i _ => bigSep_univ_equiv (stepBy i) fun c => Φ c i

theorem toks_dealt : (bigSep Finset.univ fun c : Dev nD => (toks c : sProp 𝕄)) = bigSep Finset.univ fun c : Dev nD => payToks c := by
  unfold toks payToks
  simp only [bigSep_sep']
  rw [deal fun c i => (dutyTok ER (barCell c) 0 i : sProp 𝕄), deal fun c i => (dutyTok ER (rcvCell c i) 0 0 : sProp 𝕄)]

theorem ghost_intro (K : Dev nD × (Unit ⊕ OS) → ℕ) (c : Dev nD) :
    iprop(records (act m ρ) K ∗ (bigSep Finset.univ fun k : Unit ⊕ OS => atPos ER (kcell (c, k)) 0 ∅ 0) ∗ payToks c) ⊢ G' m ρ c := by
  unfold G' ghost payToks
  rw [bigSep_all, bigSep_own, bigSep_univ_eq_bigSepL offs (by decide) (by decide), bigSep_univ_eq_bigSepL offs (by decide) (by decide),
    bigSep_univ_eq_bigSepL offs (by decide) (by decide)]
  iintro ⟨HR, ⟨Hb, ⟨Hs1, Hs2⟩, H3, H4⟩, Ht⟩
  iexists K
  isplitl [HR]; · iexact HR
  isplitl [Hb Hs1 Hs2 H3 H4]
  · isplitl [Hb]; · iexact Hb
    isplitl [Hs1]; · iexact Hs1
    isplitl [Hs2]; · iexact Hs2
    isplitl [H3]
    · iexact H3
    · iexact H4
  iexact Ht

/-- A persistent fact goes to every member. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Unit ⊕ OS => iprop(∃ κ : ℕ, cellInv ER (sched (act m ρ)) κ (kcell (c, k))))
          ∗ (bigSep Finset.univ fun k : Unit ⊕ OS => atPos ER (kcell (c, k)) 0 ∅ 0)
          ∗ (bigSep Finset.univ fun k : Unit ⊕ OS => reached ER (kcell (c, k)) 0) ∗ toks c) : sProp 𝕄)
      ⊢ bigSep Finset.univ (G' m ρ) := by
  rw [bigSep_sep', bigSep_sep', bigSep_sep', toks_dealt,
    ← bigSep_univ_prod (fun ck : Dev nD × (Unit ⊕ OS) => iprop(∃ κ : ℕ, cellInv ER (sched (act m ρ)) κ (kcell ck))),
    ← bigSep_univ_prod (fun ck : Dev nD × (Unit ⊕ OS) => (reached ER (kcell ck) 0 : sProp 𝕄))]
  iintro ⟨HI, Hat, HR, Htok⟩
  ihave HK := (BI.bigSep_exists_pi Finset.univ (fun (ck : Dev nD × (Unit ⊕ OS)) (κ : ℕ) => (cellInv ER (sched (act m ρ)) κ (kcell ck) : sProp 𝕄))) $$ HI
  icases HK with ⟨%K, HI⟩
  iapply (bigSep_share (R := records (act m ρ) K) fun c _ => ghost_intro m ρ K c)
  isplitl [HI HR]
  · unfold records
    isplitl [HI]
    · iexact HI
    · iexact HR
  · rw [bigSep_sep']
    isplitl [Hat]
    · iexact Hat
    · iexact Htok

/-- The invariants of all cells set up at once, and the state dealt. -/
theorem glob : (bigSep Finset.univ fun c => iprop(Pipeline.ownSems0 (Ix := Unit) (Name := ℕ) (U := UU) (Lvl := ℕ) (Val := Elt F) (τ := τ) osem c
      ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem creds_rcv (c : Dev nD) : ∀ l : List (Fin 31),
    (Pipeline.launchCred (fun d => dueR d l) c : sProp 𝕄) ⊢ bigSepL l fun i => cred (tallyAt (rcvCell c i) () N)
  | [] => Entails.of_eq (Pipeline.launchCred_zero c)
  | i :: l => by
    rw [bigSepL_cons', show (fun d : Dev nD => dueR d (i :: l)) = fun d => dueR d l + tallyAt (rcvCell (tgt d i) i) () N from funext fun d => dueR_cons d i l,
      Pipeline.launchCred_add]
    iintro ⟨H1, H2⟩
    isplitl [H2]
    · iapply (Pipeline.launchCred_tallyAt (rcvLoc i) (fun d => tgt d i) (fun d => src d i) (fun d => tgt_src d i) (fun d => src_tgt d i) () N c)
      iexact H2
    · iapply (creds_rcv c l)
      iexact H1

theorem creds_bar (c : Dev nD) : ∀ l : List (Fin 31),
    (Pipeline.launchCred (fun d => dueB d l) c : sProp 𝕄) ⊢ cred (tallyAt (barCell c) () l.length)
  | [] => by
    rw [List.length_nil, tallyAt_zero, cred_zero]
    exact Entails.of_eq (Pipeline.launchCred_zero c)
  | i :: l => by
    rw [show (fun d : Dev nD => dueB d (i :: l)) = fun d => dueB d l + tallyAt (barCell (tgt d i)) () 1 from funext fun d => dueB_cons d i l,
      Pipeline.launchCred_add, List.length_cons, ← tallyAt_add]
    refine BIBase.Entails.trans ?_ (cred_add _ _).2
    iintro ⟨H1, H2⟩
    isplitl [H1]
    · iapply (creds_bar c l)
      iexact H1
    · iapply (Pipeline.launchCred_tallyAt (SemLoc.reg barS) (fun d => tgt d i) (fun d => src d i) (fun d => tgt_src d i) (fun d => src_tgt d i) () 1 c)
      iexact H2

theorem creds (c : Dev nD) :
    (Pipeline.launchCred O₀ c : sProp 𝕄) ⊢ iprop(cred (tallyAt (barCell c) () 31) ∗ bigSepL offs fun i => cred (tallyAt (rcvCell c i) () N)) := by
  rw [show O₀ = fun d : Dev nD => dueR d offs + dueB d offs from rfl, Pipeline.launchCred_add]
  iintro ⟨H1, H2⟩
  isplitl [H2]
  · iapply (creds_bar c offs)
    iexact H2
  · iapply (creds_rcv c offs)
    iexact H1

/-! ## Into the region and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds c) $$ Hcr
  icases Hc with ⟨H1, HN⟩
  imodintro
  unfold start G' credits
  isplitl
  · isplitl [HG]; · iexact HG
    isplitl [H1]; · iexact H1
    isplitl [HN]
    · iassumption
    · iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; unfold yPts; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, unscopedSems0_eq]
  unfold Φ₁ Pipeline.ownSems0
  rw [bigSep_own]
  iintro ⟨Hy, Hb, Hs1, Hs2, Hz1, Hz2⟩
  isplitl [Hb]; · iexact Hb
  isplitl [Hs1 Hs2 Hz1 Hz2]
  · isplitl [Hs1 Hs2]
    · isplitl [Hs1]
      · iexact Hs1
      · iexact Hs2
    isplitl [Hz1]
    · iexact Hz1
    · iexact Hz2
  iexists (pieces (act m ρ c)); unfold yPts; iexact Hy

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a window's array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- On 32 devices, for any float values, from any memory with zero counters: every weakly fair execution of the program
    terminates with each window's array at its final contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result window's one block, read back, is what the body left. -/
theorem finalA_o (c : Dev nD) : (win0_2.blk (0 : Fin 1)).view.read (Elt F) (finalA m ρ c (2 : Fin 3)) = outAt m ρ c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-- The operands hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.A2a

end
-- ==== Proof.KernelIdeal.Result.lean ====
/-
What the arrays hold after the run, in closed form: the operands what they held, each device's result the joined blocks
of all devices' activated products.
-/
module

public import proofs.«01_k».proof.Proof.KernelIdeal.Launch

@[expose] public section

noncomputable section

namespace Cert.KernelIdeal.A2a

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The staged block of `x` is the device's operand. -/
theorem xstg_eq (c : Dev nD) : xstg m ρ c = m ((c.tc : Thread nD τ).loc main_arg0) := by
  have hz0 : (fun a => (win0_0.index (0 : Fin 1)) a * main_arg0.ty.shape.size a) = fun _ => 0 :=
    funext fun a => by fin_cases a <;> decide
  exact Memref.read_access_unit_zero (Elt F) main_arg0 hz0 (fun a => by fin_cases a <;> decide) _

/-- The staged `w` is the device's second operand. -/
theorem wstg_eq (c : Dev nD) : wstg m ρ c = m ((c.tc : Thread nD τ).loc main_arg1) := by
  have hz1 : (fun a => (win0_1.index (0 : Fin 1)) a * main_arg1.ty.shape.size a) = fun _ => 0 :=
    funext fun a => by fin_cases a <;> decide
  exact Memref.read_access_unit_zero (Elt F) main_arg1 hz1 (fun a => by fin_cases a <;> decide) _

/-- A device's activated product, of its operands. -/
theorem act_eq (c : Dev nD) : act m ρ c = k0_pay1 (m ((c.tc : Thread nD τ).loc main_arg0)) (m ((c.tc : Thread nD τ).loc main_arg1)) := by
  unfold act; rw [xstg_eq, wstg_eq]

/-- A device's result after the run. -/
theorem finalA_result (c : Dev nD) : finalA m ρ c (2 : Fin 3) = joined (act m ρ) c := by
  have hz2 : (fun a => (win0_2.index (0 : Fin 1)) a * main_v1.ty.shape.size a) = fun _ => 0 :=
    funext fun a => by fin_cases a <;> decide
  have h := finalA_o m ρ c
  have hr := fun f => Memref.read_access_unit_zero (Elt F) main_v1 hz2 (fun a => by fin_cases a <;> decide) f
  rw [hr] at h
  exact h

/-- The run in closed form. -/
theorem run_result : θ_run defs (onTc (τ := τ) (main (F := F))) ⟨m, fun _ => 0, ρ⟩ (fun r =>
      (∀ c : Dev nD, r.2.mem ((c.tc : Thread nD τ).loc main_v1) = joined (act m ρ) c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun _ h => ⟨fun c => ⟨(h.1 c (2 : Fin 3)).trans (finalA_result m ρ c), (h.1 c (0 : Fin 3)).trans (finalA_x m ρ c),
    (h.1 c (1 : Fin 3)).trans (finalA_w m ρ c)⟩, h.2⟩) (run_main m ρ)

end Cert.KernelIdeal.A2a

end
-- ==== Proof.Silu.lean ====
/-
The activation on the extended reals: the kernel's product with the logistic function is the reference's quotient, and
a clip leaves alone what lies in its range.
-/
module

public import Idealize.ShloMosaic.PureOps.Ideal
public import Idealize.ShloMosaic.PureOps.IdealRules
public import Idealize.ShloMosaic.Lib.IdealHost

@[expose] public section

noncomputable section

namespace Cert.Silu

open Idealize.ShloMosaic

/-- The exponential is nowhere negative. -/
theorem exp_nonneg (y : EReal) : 0 ≤ Ideal.exp y := by
  induction y using EReal.rec with
  | bot => rw [Ideal.exp_bot]
  | coe r => rw [Ideal.exp_coe]; exact_mod_cast (Real.exp_pos r).le
  | top => rw [Ideal.exp_top]; exact le_top

/-- So one more than it is never zero. -/
theorem one_add_exp_ne (y : EReal) : 1 + Ideal.exp y ≠ 0 := fun h => by
  have h1 : (1 : EReal) ≤ 1 + Ideal.exp y := le_add_of_nonneg_right (exp_nonneg y)
  rw [h] at h1
  exact absurd h1 (not_le.mpr zero_lt_one)

/-- `y · logistic y = y / (1 + e⁻ʸ)`, at the infinities too. -/
theorem mul_logistic (y : EReal) : y * Ideal.logistic y = Ideal.div y (1 + Ideal.exp (-y)) := by
  unfold Ideal.logistic Ideal.div
  rw [if_neg (one_add_exp_ne _), if_neg (one_add_exp_ne _), one_mul]

/-- A clip of a value in its range. -/
theorem clip_id {lo hi y : EReal} (h1 : lo ≤ y) (h2 : y ≤ hi) : min hi (max lo y) = y := by
  rw [max_eq_right h1, min_eq_right h2]

end Cert.Silu

end
-- ==== Proof.Value.lean ====
/-
The equation: device `c`'s result is column block `c` of the reference's array. Every element of both is the activation
of one row-by-column product over the extended reals.
-/
module

public import proofs.«01_k».proof.Defs
public import proofs.«01_k».proof.Proof.KernelIdeal.Result
public import proofs.«01_k».proof.Proof.Silu
public import proofs.«01_k».proof.Proof.Gen.ReferenceIdeal.Run
public import proofs.«01_k».proof.Proof.Gen.UnclippedIdeal.Run
public import proofs.«01_k».proof.Proof.Gen.Pre_within_KernelIdeal
public import Idealize.ShloMosaic.Lib.StackMember
public import Idealize.ShloMosaic.Lib.Layout

@[expose] public section

noncomputable section

namespace Cert.Value

open Idealize.ShloMosaic Idealize.ShloMosaic.ValueIdx Idealize.ShloMosaic.StackMember
open Cert.KernelIdeal.A2a (act joined)

/-- An array over the extended reals. -/
abbrev Mat (m n : Nat) : Type := (⟨2, ![m, n]⟩ : Shape).Idx → EReal

/-- Row `p` of one matrix times column `q` of the other. -/
def dot {m n k : Nat} (x : Mat m k) (w : Mat k n) (p : Fin m) (q : Fin n) : EReal := ∑ i : Fin k, x (ix2 p i) * w (ix2 i q)

/-- The activation. -/
def silu (y : EReal) : EReal := Ideal.div y (1 + Ideal.exp (-y))

/-- The array of the activated products of two matrices. -/
def siluDot {m n k : Nat} (x : Mat m k) (w : Mat k n) : Mat m n := fun j => silu (dot x w (j 0) (j 1))

/-- An index of a matrix is the pair of its coordinates. -/
theorem ix2_self {m n : Nat} (j : (⟨2, ![m, n]⟩ : Shape).Idx) : (ix2 (j 0) (j 1) : (⟨2, ![m, n]⟩ : Shape).Idx) = j := by
  funext a; fin_cases a <;> rfl

/-! ## The kernel's side -/

/-- What the kernel computes of its two operands. -/
theorem pay1_eq (x : Mat 32 1024) (w : Mat 1024 1024) : Cert.KernelIdeal.Gen.k0_pay1 (F := Ideal) x w = siluDot x w := by
  funext j
  have hdot : (matmul Cert.KernelIdeal.dot_S32x1024_S1024x1024_S32x1024_1_0_0_1_n_n none (φ₁ := .bf16) (φ₂ := .bf16) (x : FVec Ideal _ .bf16) (w : FVec Ideal _ .bf16)
      (constant _ .f32 0x00000000#32) : FVec Ideal _ .f32) j = dot x w (j 0) (j 1) := by
    rw [matmul_zero_eq_dotGeneral, ← ix2_self j]
    exact dotGeneral_plain_apply none (φ₁ := .bf16) (φ₂ := .bf16) x w (j 0) (j 1)
  unfold Cert.KernelIdeal.Gen.k0_pay1
  simp only [shapeCast_self]
  show _ * Ideal.logistic _ = _
  rw [hdot, Cert.Silu.mul_logistic]
  rfl

/-! ## The references' side -/

/-- The references' product, at an index. -/
theorem host_dot {m n k : Nat} (x : Mat m k) (w : Mat k n) (h : FTy.bits .bf16 < FTy.bits .f32) (j : (⟨2, ![m, n]⟩ : Shape).Idx) :
    (Host.dotGeneral (DotDims.plain m k n) none (extf .f32 (x : FVec Ideal _ .bf16) h) (extf .f32 (w : FVec Ideal _ .bf16) h) : FVec Ideal _ .f32) j =
      dot x w (j 0) (j 1) := by
  rw [← ix2_self j]
  exact dotGeneral_plain_apply none (φ₁ := .f32) (φ₂ := .f32) x w (j 0) (j 1)

/-- The clip's bounds. -/
def lo : EReal := Ideal.ofBits .f32 0xC2700000#32
@[inherit_doc lo] def hi : EReal := Ideal.ofBits .f32 0x42700000#32

/-- The array of the products of two matrices, activated as reference.py does, the exponent clipped. -/
def clipDot {m n k : Nat} (x : Mat m k) (w : Mat k n) : Mat m n :=
  fun j => Ideal.div (dot x w (j 0) (j 1)) (1 + Ideal.exp (-(min hi (max lo (dot x w (j 0) (j 1))))))

/-- What the reference without the clip leaves, on every device: the activated product. -/
theorem run_unclipped (m : (ℓ : Loc Cert.UnclippedIdeal.nD Cert.UnclippedIdeal.τ Cert.UnclippedIdeal.sig) → Buf (Elt Ideal) ℓ) (ρ : Dev Cert.UnclippedIdeal.nD → PrngReg) :
    θ_run Cert.UnclippedIdeal.defs (onTc (τ := Cert.UnclippedIdeal.τ) (Cert.UnclippedIdeal.main (F := Ideal))) ⟨m, fun _ => 0, ρ⟩ fun r => ∀ c : Dev Cert.UnclippedIdeal.nD,
      r.2.mem ((c.tc : Thread Cert.UnclippedIdeal.nD Cert.UnclippedIdeal.τ).loc Cert.UnclippedIdeal.main_v7) =
          siluDot (m ((c.tc : Thread Cert.UnclippedIdeal.nD Cert.UnclippedIdeal.τ).loc Cert.UnclippedIdeal.main_arg0)) (m ((c.tc : Thread Cert.UnclippedIdeal.nD Cert.UnclippedIdeal.τ).loc Cert.UnclippedIdeal.main_arg1))
        ∧ r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
        ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1) :=
  (θ_run Cert.UnclippedIdeal.defs _ _).mono (fun _ h c => ⟨(h c).1.trans (by
    funext j
    have hd := host_dot (m ((c.tc : Thread Cert.UnclippedIdeal.nD Cert.UnclippedIdeal.τ).loc Cert.UnclippedIdeal.main_arg0)) (m ((c.tc : Thread Cert.UnclippedIdeal.nD Cert.UnclippedIdeal.τ).loc Cert.UnclippedIdeal.main_arg1))
      Cert.UnclippedIdeal.Gen.facts₀.bitsLt_bf16_f32 j
    show Ideal.div ((Host.dotGeneral Cert.UnclippedIdeal.dot_S1024x1024_S1024x1024_S1024x1024_1_0_0_1_n_n none _ _ : FVec Ideal _ .f32) j) (Ideal.ofBits .f32 0x3F800000#32 + Ideal.exp (-((Host.dotGeneral Cert.UnclippedIdeal.dot_S1024x1024_S1024x1024_S1024x1024_1_0_0_1_n_n none _ _ : FVec Ideal _ .f32) j))) = _
    erw [hd]
    rw [Ideal.ofBits_one_f32]
    rfl), (h c).2⟩) (Cert.UnclippedIdeal.Value.run m ρ)

/-- What the reference with the clip leaves, on every device: the product activated with a clipped exponent. -/
theorem run_clipped (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v8) =
          clipDot (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) :=
  (θ_run Cert.ReferenceIdeal.defs _ _).mono (fun _ h c => ⟨(h c).1.trans (by
    funext j
    have hd := host_dot (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      Cert.ReferenceIdeal.Gen.facts₀.bitsLt_bf16_f32 j
    show Ideal.div ((Host.dotGeneral Cert.ReferenceIdeal.dot_S1024x1024_S1024x1024_S1024x1024_1_0_0_1_n_n none _ _ : FVec Ideal _ .f32) j) (Ideal.ofBits .f32 0x3F800000#32 + Ideal.exp (-(min hi (max lo ((Host.dotGeneral Cert.ReferenceIdeal.dot_S1024x1024_S1024x1024_S1024x1024_1_0_0_1_n_n none _ _ : FVec Ideal _ .f32) j))))) = _
    erw [hd]
    rw [Ideal.ofBits_one_f32]
    rfl), (h c).2⟩) (Cert.ReferenceIdeal.Value.run m ρ)

/-! ## The equation -/

/-- The element of the whole product is the element of the product of the row block that holds its row. -/
theorem dot_block (X W : Mat 1024 1024) (d : Fin 32) (p : Fin 32) (r q : Fin 1024) (h : r.val = d.val * 32 + p.val) :
    dot (Layout.block ⟨2, ![32, 1024]⟩ ⟨2, ![1024, 1024]⟩ 0 32 d X) W p q = dot X W r q := by
  refine Finset.sum_congr rfl fun i _ => ?_
  congr 1
  rw [Layout.block_apply]
  congr 1
  funext a
  fin_cases a
  · exact Fin.ext h.symm
  · rfl

/-- Device `c`'s joined rows are column block `c` of the whole array. -/
theorem joined_eq (X W : Mat 1024 1024) (a : Fin 32 → Mat 32 1024)
    (ha : ∀ d, a d = siluDot (Layout.block ⟨2, ![32, 1024]⟩ ⟨2, ![1024, 1024]⟩ 0 32 d X) W) (c : Fin 32) :
    joined (F := Ideal) a c = Layout.block ⟨2, ![1024, 32]⟩ ⟨2, ![1024, 1024]⟩ 1 32 c (siluDot X W) := by
  funext j
  rw [Layout.block_apply]
  unfold joined
  rw [ha]
  show silu (dot _ _ _ _) = silu (dot _ _ _ _)
  rw [dot_block X W _ _ (j 0) _ (by show (j 0).val = (j 0).val / 32 * 32 + (j 0).val % 32; omega)]
  congr 2
  exact Fin.ext (by show 32 * c.val + (j 1).val = c.val * 32 + (j 1).val; omega)

/-! ## The precondition -/

/-- Where the precondition holds of a device's blocks, its products lie between the clip's bounds. -/
theorem within_bounds (x : Mat 32 1024) (w : Mat 1024 1024) (h : Cert.Pre_within_KernelIdeal.fn (F := Ideal) x w = fun _ => 1#1) (p : Fin 32) (q : Fin 1024) :
    lo ≤ dot x w p q ∧ dot x w p q ≤ hi := by
  have hj := congrFun h (ix2 p q)
  have hd := host_dot x w Cert.Pre_within_KernelIdeal.Gen.facts.bitsLt_bf16_f32 (ix2 p q)
  have e : IntOp.andi (Ideal.cmp .oge (dot x w p q) lo) (Ideal.cmp .ole (dot x w p q) hi) = 1#1 := by
    rw [← hj, show dot x w p q = _ from hd.symm]; rfl
  obtain ⟨h1, h2⟩ := IntOp.andi_eq_one.1 e
  constructor
  · by_contra hn; simp [Ideal.cmp, hn] at h1
  · by_contra hn; simp [Ideal.cmp, hn] at h2

/-- Where the precondition holds of every device's blocks, the clip changes nothing. -/
theorem clipDot_eq (X W : Mat 1024 1024) (h : ∀ d : Fin 32, Cert.Pre_within_KernelIdeal.fn (F := Ideal)
      (Layout.block ⟨2, ![32, 1024]⟩ ⟨2, ![1024, 1024]⟩ 0 32 d X) W = fun _ => 1#1) : clipDot X W = siluDot X W := by
  funext j
  have hj : (j 0).val < 1024 := (j 0).isLt
  have hb := within_bounds _ _ (h ⟨(j 0).val / 32, by omega⟩) ⟨(j 0).val % 32, by omega⟩ (j 1)
  have e := dot_block X W ⟨(j 0).val / 32, by omega⟩ ⟨(j 0).val % 32, by omega⟩ (j 0) (j 1) (by show (j 0).val = (j 0).val / 32 * 32 + (j 0).val % 32; omega)
  have h1 : lo ≤ dot X W (j 0) (j 1) := e ▸ hb.1
  have h2 : dot X W (j 0) (j 1) ≤ hi := e ▸ hb.2
  unfold clipDot siluDot silu
  rw [Cert.Silu.clip_id h1 h2]

end Cert.Value

end
-- ==== Proof.lean ====
/-
The proof of `Cert.Claim`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.Pre_within_KernelIdeal
public import proofs.«01_k».proof.Proof.Gen.Pre_within_ReferenceIdeal
public import proofs.«01_k».proof.Proof.Gen.Kernel.Skeleton
public import proofs.«01_k».proof.Proof.Gen.Kernel.Launch
public import proofs.«01_k».proof.Proof.Gen.Kernel.Points
public import proofs.«01_k».proof.Proof.Gen.KernelIdeal.Skeleton
public import proofs.«01_k».proof.Proof.Gen.KernelIdeal.Launch
public import proofs.«01_k».proof.Proof.Gen.KernelIdeal.Points
public import proofs.«01_k».proof.Proof.Kernel.Result
public import proofs.«01_k».proof.Proof.KernelIdeal.Result
public import proofs.«01_k».proof.Proof.Value

@[expose] public section

noncomputable section

namespace Cert.Proof

open Idealize.ShloMosaic Idealize.SL.Sem

/-- The kernel over the machine's floats terminates, faults nowhere, keeps its arguments and leaves every counter at zero. -/
theorem frame_kernel : Cert.quiescent_Kernel := fun m g _ =>
  (θ_run Cert.Kernel.defs _ _).mono (fun _ h => ⟨fun c => (h.1 c).2, h.2⟩) (Cert.Kernel.A2a.run_result (F := Bits) m g)

/-- The same of the kernel over the extended reals. -/
theorem frame_kernelIdeal : Cert.quiescent_KernelIdeal := fun m g _ =>
  (θ_run Cert.KernelIdeal.defs _ _).mono (fun _ h => ⟨fun c => (h.1 c).2, h.2⟩) (Cert.KernelIdeal.A2a.run_result (F := Ideal) m g)

/-- The same of reference.py's function. -/
theorem frame_reference : Cert.quiescent_ReferenceIdeal := fun m g _ =>
  (θ_run Cert.ReferenceIdeal.defs _ _).mono (fun r h => ⟨fun c => (h c).2, sem_eq_zero_of_no_sems (by decide) r.2⟩) (Cert.Value.run_clipped m g)

/-- The same of the function without the clip. -/
theorem frame_unclipped : Cert.quiescent_UnclippedIdeal := fun m g _ =>
  (θ_run Cert.UnclippedIdeal.defs _ _).mono (fun r h => ⟨fun c => (h c).2, sem_eq_zero_of_no_sems (by decide) r.2⟩) (Cert.Value.run_unclipped m g)

/-- Where every device's arguments are their part of the whole arrays, every device's result is its column block of
    the activated product of the whole arrays. -/
theorem result_block (m : (ℓ : Loc Cert.KernelIdeal.nD Cert.KernelIdeal.τ Cert.KernelIdeal.sig) → Buf (Elt Ideal) ℓ) (g : Dev Cert.KernelIdeal.nD → PrngReg)
    (X W : Cert.Value.Mat 1024 1024)
    (h : ∀ c : Dev Cert.KernelIdeal.nD,
      m ((c.tc : Thread Cert.KernelIdeal.nD Cert.KernelIdeal.τ).loc Cert.KernelIdeal.main_arg0) = Layout.block ⟨2, ![32, 1024]⟩ ⟨2, ![1024, 1024]⟩ 0 32 c X
      ∧ m ((c.tc : Thread Cert.KernelIdeal.nD Cert.KernelIdeal.τ).loc Cert.KernelIdeal.main_arg1) = W) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1) = Layout.block ⟨2, ![1024, 32]⟩ ⟨2, ![1024, 1024]⟩ 1 32 c (Cert.Value.siluDot X W)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ hr c => ⟨(hr.1 c).1.trans (Cert.Value.joined_eq X W _ (fun d => by
    rw [Cert.KernelIdeal.A2a.act_eq, (h d).1, (h d).2]
    exact Cert.Value.pay1_eq _ _) c), (hr.1 c).2⟩) (Cert.KernelIdeal.A2a.run_result (F := Ideal) m g)

/-- The kernel computes the function without the clip, whatever the arguments. -/
theorem value_unclipped : Cert.algebraic_KernelIdeal_UnclippedIdeal := fun m g m' g' _ h =>
  ⟨_, result_block m g _ _ h, (θ_run Cert.UnclippedIdeal.defs _ _).mono (fun _ hr => hr 0) (Cert.Value.run_unclipped m' g')⟩

/-- The kernel computes reference.py's function where the product lies between the clip's bounds. -/
theorem value_clipped : Cert.algebraic_KernelIdeal_ReferenceIdeal_pre_within_KernelIdeal := fun m g m' g' hp h =>
  ⟨_, result_block m g _ _ h, (θ_run Cert.ReferenceIdeal.defs _ _).mono (fun _ hr => ⟨(hr 0).1.trans (Cert.Value.clipDot_eq _ _ fun d => by
    have e := hp d
    rw [(h d).1, (h d).2] at e
    exact e), (hr 0).2⟩) (Cert.Value.run_clipped m' g')⟩

/-- Every claim of the certificate. -/
theorem claim : Cert.Claim :=
  ⟨Cert.Kernel.Gen.facts, Cert.KernelIdeal.Gen.facts, Cert.ReferenceIdeal.Gen.facts, Cert.UnclippedIdeal.Gen.facts,
    Cert.Pre_within_KernelIdeal.Gen.facts, Cert.Pre_within_ReferenceIdeal.Gen.facts,
    frame_kernel, frame_kernelIdeal, fun m g _ => frame_kernelIdeal m g trivial, frame_reference, fun m g _ => frame_reference m g trivial,
    frame_unclipped, trivial, value_clipped, value_unclipped⟩

end Cert.Proof

end
